-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale" .f32 0x3E38AA3B#32 (((Real.log 2)⁻¹ * 8⁻¹ : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v15) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v92) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14))

def Claim : Prop :=
  ∃ (hKernel : Cert.Kernel.Facts) (hKernelIdeal : Cert.KernelIdeal.Facts) (hReferenceIdeal : Cert.ReferenceIdeal.Facts) (hReference : Cert.Reference.Facts) (hTail : Cert.Tail.Facts) (hTailIdeal : Cert.TailIdeal.Facts) (hTailReferenceIdeal : Cert.TailReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
-- ==== Pre_finite.lean ====
abbrev S4x4096x256 : Shape := ⟨3, ![4, 4096, 256]⟩
abbrev S4x257 : Shape := ⟨2, ![4, 257]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x257 : S_.BroadcastsInDim S4x257 (![] : Fin 0 → Fin S4x257.rank)
  reducesTo_S4x257_S_d0_1 : S4x257.ReducesTo [0, 1] S_

variable [Facts]

def fn {F : FTy → Type} [FloatOps F] (main_arg0 : FVec F S4x4096x256 .f32) (main_arg1 : FVec F S4x4096x256 .f32) (main_arg2 : FVec F S4x4096x256 .f32) (main_arg3 : FVec F S4x257 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x257 .f32 := Host.absf main_arg3
  let main_cst_2 : FVec F S_ .f32 := constant S_ .f32 0x7F800000#32
  let main_v10 : FVec F S4x257 .f32 := broadcastInDim S4x257 ![] bcast_S_S4x257 main_cst_2
  let main_v11 : IVec S4x257 1 := cmpf .olt main_v9 main_v10
  let main_c_3 : IVec S_ 1 := constantI S_ 1 1#1
  let main_v12 : IVec S_ 1 := (fun x v => Host.reduce IntOp.andi x v reducesTo_S4x257_S_d0_1 h_S_) main_v11 main_c_3
  let main_v13 : IVec S_ 1 := andi main_v8 main_v12
  main_v13
-- ==== Kernel.lean ====
abbrev S4x4096x256 : Shape := ⟨3, ![4, 4096, 256]⟩
abbrev S4x257 : Shape := ⟨2, ![4, 257]⟩
abbrev S4x1 : Shape := ⟨2, ![4, 1]⟩
abbrev S4x639 : Shape := ⟨2, ![4, 639]⟩
abbrev S4x128 : Shape := ⟨2, ![4, 128]⟩
abbrev S4x1024 : Shape := ⟨2, ![4, 1024]⟩
abbrev S4x1x1024 : Shape := ⟨3, ![4, 1, 1024]⟩
abbrev S1x256x256 : Shape := ⟨3, ![1, 256, 256]⟩
abbrev S4x256x768 : Shape := ⟨3, ![4, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S256x256 : Shape := ⟨2, ![256, 256]⟩
abbrev S768x256 : Shape := ⟨2, ![768, 256]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x257, .f32⟩
  | .hbm, ⟨4, _⟩ => ⟨S4x4096x256, .bf16⟩
  | .hbm, ⟨5, _⟩ => ⟨S4x4096x256, .bf16⟩
  | .hbm, ⟨6, _⟩ => ⟨S4x4096x256, .bf16⟩
  | .hbm, ⟨7, _⟩ => ⟨S4x1, .f32⟩
  | .hbm, ⟨8, _⟩ => ⟨S4x639, .f32⟩
  | .hbm, ⟨9, _⟩ => ⟨S4x1, .f32⟩
  | .hbm, ⟨10, _⟩ => ⟨S4x128, .f32⟩
  | .hbm, ⟨11, _⟩ => ⟨S4x1024, .f32⟩
  | .hbm, ⟨12, _⟩ => ⟨S4x1x1024, .f32⟩
  | .hbm, ⟨13, _⟩ => ⟨S4x4096x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S4x1x1024, .f32⟩
  | .local _ .vmem, ⟨15, _⟩ => ⟨S1x256x256, .bf16⟩
  | .local _ .vmem, ⟨16, _⟩ => ⟨S1x256x256, .bf16⟩
  | .local _ .vmem, ⟨17, _⟩ => ⟨S4x256x768, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c256_i32 : BitVec 32 := 256#32
  let v30 : BitVec 32 := Scalar.muli arg1 c256_i32
  let c512_i32 : BitVec 32 := 512#32
  let v31 : BitVec 1 := Scalar.cmpi .slt v30 c512_i32
  let v32 : BitVec 32 := Scalar.extui v31
  let c0_i32_7 : BitVec 32 := 0#32
  let v33 : BitVec 1 := Scalar.cmpi .ne v32 c0_i32_7
  v33

def k0_cond3 (i : grid0.Coords) : BitVec 1 :=
  let arg1 : BitVec 32 := BitVec.ofNat 32 (i 1).val
  let c256_i32_8 : BitVec 32 := 256#32
  let v34 : BitVec 32 := Scalar.muli arg1 c256_i32_8
  let c512_i32_9 : BitVec 32 := 512#32
  let v35 : BitVec 1 := Scalar.cmpi .sge v34 c512_i32_9
  let v36 : BitVec 32 := Scalar.extui v35
  let c0_i32_10 : BitVec 32 := 0#32
  let v37 : BitVec 1 := Scalar.cmpi .ne v36 c0_i32_10
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.log 2)⁻¹ * 8⁻¹ : ℝ) : EReal)
  | _ => none
-- ==== Reference.lean ====
abbrev S4x4096x256 : Shape := ⟨3, ![4, 4096, 256]⟩
abbrev S4x257 : Shape := ⟨2, ![4, 257]⟩
abbrev S4x64x64x4x64 : Shape := ⟨5, ![4, 64, 64, 4, 64]⟩
abbrev S_ : Shape := ⟨0, ![]⟩
abbrev S4x72x64x4x64 : Shape := ⟨5, ![4, 72, 64, 4, 64]⟩
abbrev S4x64x576x4x64 : Shape := ⟨5, ![4, 64, 576, 4, 64]⟩
abbrev S4x4x64x64x576 : Shape := ⟨5, ![4, 4, 64, 64, 576]⟩
abbrev S576 : Shape := ⟨1, ![576]⟩
abbrev S1x576 : Shape := ⟨2, ![1, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S4x64x576 : Shape := ⟨3, ![4, 64, 576]⟩
abbrev S9 : Shape := ⟨1, ![9]⟩
abbrev S9x64 : Shape := ⟨2, ![9, 64]⟩
abbrev S4x1x64x576 : Shape := ⟨4, ![4, 1, 64, 576]⟩
abbrev S1x4x1x64x576 : Shape := ⟨5, ![1, 4, 1, 64, 576]⟩
abbrev S64x1x576 : Shape := ⟨3, ![64, 1, 576]⟩
abbrev S4x4x64x64 : Shape := ⟨4, ![4, 4, 64, 64]⟩
abbrev S4x4x64x64x1 : Shape := ⟨5, ![4, 4, 64, 64, 1]⟩
abbrev S4x64x4x64x64 : Shape := ⟨5, ![4, 64, 4, 64, 64]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x257, .f32⟩
  | .hbm, ⟨4, _⟩ => ⟨S4x64x64x4x64, .f32⟩
  | .hbm, ⟨5, _⟩ => ⟨S4x64x64x4x64, .f32⟩
  | .hbm, ⟨6, _⟩ => ⟨S_, .i32⟩
  | .hbm, ⟨7, _⟩ => ⟨S_, .f32⟩
  | .hbm, ⟨8, _⟩ => ⟨S4x72x64x4x64, .f32⟩
  | .hbm, ⟨9, _⟩ => ⟨S4x64x64x4x64, .f32⟩
  | .hbm, ⟨10, _⟩ => ⟨S_, .i32⟩
  | .hbm, ⟨11, _⟩ => ⟨S_, .f32⟩
  | .hbm, ⟨12, _⟩ => ⟨S4x72x64x4x64, .f32⟩
  | .hbm, ⟨13, _⟩ => ⟨S4x64x64x4x64, .f32⟩
  | .hbm, ⟨14, _⟩ => ⟨S4x64x64x4x64, .f32⟩
  | .hbm, ⟨15, _⟩ => ⟨S4x64x64x4x64, .f32⟩
  | .hbm, ⟨16, _⟩ => ⟨S4x64x64x4x64, .f32⟩
  | .hbm, ⟨17, _⟩ => ⟨S4x64x64x4x64, .f32⟩
  | .hbm, ⟨18, _⟩ => ⟨S4x64x64x4x64, .f32⟩
  | .hbm, ⟨19, _⟩ => ⟨S4x64x64x4x64, .f32⟩
  | .hbm, ⟨20, _⟩ => ⟨S4x64x64x4x64, .f32⟩
  | .hbm, ⟨21, _⟩ => ⟨S4x64x64x4x64, .f32⟩
  | .hbm, ⟨22, _⟩ => ⟨S4x64x576x4x64, .f32⟩
  | .hbm, ⟨23, _⟩ => ⟨S4x64x64x4x64, .f32⟩
  | .hbm, ⟨24, _⟩ => ⟨S4x64x64x4x64, .f32⟩
  | .hbm, ⟨25, _⟩ => ⟨S4x64x64x4x64, .f32⟩
  | .hbm, ⟨26, _⟩ => ⟨S4x64x64x4x64, .f32⟩
  | .hbm, ⟨27, _⟩ => ⟨S4x64x64x4x64, .f32⟩
  | .hbm, ⟨28, _⟩ => ⟨S4x64x64x4x64, .f32⟩
  | .hbm, ⟨29, _⟩ => ⟨S4x64x64x4x64, .f32⟩
  | .hbm, ⟨30, _⟩ => ⟨S4x64x64x4x64, .f32⟩
  | .hbm, ⟨31, _⟩ => ⟨S4x64x64x4x64, .f32⟩
  | .hbm, ⟨32, _⟩ => ⟨S4x64x576x4x64, .f32⟩
  | .hbm, ⟨33, _⟩ => ⟨S4x4x64x64x576, .f32⟩
  | .hbm, ⟨34, _⟩ => ⟨S_, .f32⟩
  | .hbm, ⟨35, _⟩ => ⟨S4x4x64x64x576, .f32⟩
  | .hbm, ⟨36, _⟩ => ⟨S4x4x64x64x576, .f32⟩
  | .hbm, ⟨37, _⟩ => ⟨S576, .i32⟩
  | .hbm, ⟨38, _⟩ => ⟨S1x576, .i32⟩
  | .hbm, ⟨39, _⟩ => ⟨S_, .i32⟩
  | .hbm, ⟨40, _⟩ => ⟨S1x576, .i32⟩
  | .hbm, ⟨41, _⟩ => ⟨S1x576, .i32⟩
  | .hbm, ⟨42, _⟩ => ⟨S64, .i32⟩
  | .hbm, ⟨43, _⟩ => ⟨S64x1, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i1⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S64x576, .i32⟩
  | .hbm, ⟨65, _⟩ => ⟨S64x576x1, .i32⟩
  | .hbm, ⟨66, _⟩ => ⟨S4x64x576, .f32⟩
  | .hbm, ⟨67, _⟩ => ⟨S64, .i32⟩
  | .hbm, ⟨68, _⟩ => ⟨S64x1, .i32⟩
  | .hbm, ⟨69, _⟩ => ⟨S9, .i32⟩
  | .hbm, ⟨70, _⟩ => ⟨S9x64, .i32⟩
  | .hbm, ⟨71, _⟩ => ⟨S576, .i32⟩
  | .hbm, ⟨72, _⟩ => ⟨S1x576, .i32⟩
  | .hbm, ⟨73, _⟩ => ⟨S64x576, .i32⟩
  | .hbm, ⟨74, _⟩ => ⟨S64x576, .i32⟩
  | .hbm, ⟨75, _⟩ => ⟨S64x576, .i32⟩
  | .hbm, ⟨76, _⟩ => ⟨S_, .i32⟩
  | .hbm, ⟨77, _⟩ => ⟨S64x576, .i32⟩
  | .hbm, ⟨78, _⟩ => ⟨S64x576, .i32⟩
  | .hbm, ⟨79, _⟩ => ⟨S_, .i32⟩
  | .hbm, ⟨80, _⟩ => ⟨S64x576, .i32⟩
  | .hbm, ⟨81, _⟩ => ⟨S64x576, .i1⟩
  | .hbm, ⟨82, _⟩ => ⟨S4x1x64x576, .f32⟩
  | .hbm, ⟨83, _⟩ => ⟨S1x4x1x64x576, .f32⟩
  | .hbm, ⟨84, _⟩ => ⟨S4x4x64x64x576, .f32⟩
  | .hbm, ⟨85, _⟩ => ⟨S4x4x64x64x576, .f32⟩
  | .hbm, ⟨86, _⟩ => ⟨S64x1x576, .i1⟩
  | .hbm, ⟨87, _⟩ => ⟨S_, .f32⟩
  | .hbm, ⟨88, _⟩ => ⟨S_, .f32⟩
  | .hbm, ⟨89, _⟩ => ⟨S4x4x64x64x576, .i1⟩
  | .hbm, ⟨90, _⟩ => ⟨S4x4x64x64x576, .f32⟩
  | .hbm, ⟨91, _⟩ => ⟨S4x4x64x64x576, .f32⟩
  | .hbm, ⟨92, _⟩ => ⟨S_, .f32⟩
  | .hbm, ⟨93, _⟩ => ⟨S4x4x64x64, .f32⟩
  | .hbm, ⟨94, _⟩ => ⟨S_, .f32⟩
  | .hbm, ⟨95, _⟩ => ⟨S4x4x64x64, .f32⟩
  | .hbm, ⟨96, _⟩ => ⟨S4x4x64x64, .f32⟩
  | .hbm, ⟨97, _⟩ => ⟨S4x4x64x64x1, .f32⟩
  | .hbm, ⟨98, _⟩ => ⟨S4x4x64x64x576, .f32⟩
  | .hbm, ⟨99, _⟩ => ⟨S4x4x64x64x576, .f32⟩
  | .hbm, ⟨100, _⟩ => ⟨S4x4x64x64x576, .f32⟩
  | .hbm, ⟨101, _⟩ => ⟨S_, .f32⟩
  | .hbm, ⟨102, _⟩ => ⟨S4x4x64x64, .f32⟩
  | .hbm, ⟨103, _⟩ => ⟨S4x4x64x64x1, .f32⟩
  | .hbm, ⟨104, _⟩ => ⟨S4x4x64x64x576, .f32⟩
  | .hbm, ⟨105, _⟩ => ⟨S4x4x64x64x576, .f32⟩
  | .hbm, ⟨106, _⟩ => ⟨S4x64x4x64x64, .f32⟩
  | .hbm, ⟨107, _⟩ => ⟨S4x64x64x4x64, .f32⟩
  | .hbm, ⟨108, _⟩ => ⟨S4x4096x256, .f32⟩
  | .hbm, ⟨109, _⟩ => ⟨S4x4096x256, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_7 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Tail.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S2x1024x1024 : Shape := ⟨3, ![2, 1024, 1024]⟩
abbrev S4x1x1024 : Shape := ⟨3, ![4, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S1x1024x1024 : Shape := ⟨3, ![1, 1024, 1024]⟩
abbrev S1x1024x256 : Shape := ⟨3, ![1, 1024, 256]⟩
abbrev S1x1024x512 : Shape := ⟨3, ![1, 1024, 512]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1024 : Shape := ⟨2, ![1024, 1024]⟩
abbrev S1x256x256 : Shape := ⟨3, ![1, 256, 256]⟩
abbrev S256x256 : Shape := ⟨2, ![256, 256]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x2816 : Shape := ⟨2, ![256, 2816]⟩
abbrev S2816x1024 : Shape := ⟨2, ![2816, 1024]⟩

abbrev nBuf : Space → Nat
  | .hbm => 31
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x512, .bf16⟩
  | .hbm, ⟨3, _⟩ => ⟨S4x4096x256, .bf16⟩
  | .hbm, ⟨4, _⟩ => ⟨S2x1024x1024, .f32⟩
  | .hbm, ⟨5, _⟩ => ⟨S4x1x1024, .f32⟩
  | .hbm, ⟨6, _⟩ => ⟨S2x1024, .f32⟩
  | .hbm, ⟨7, _⟩ => ⟨S2x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024, .f32⟩
  | .hbm, ⟨15, _⟩ => ⟨S2x1024x1024, .bf16⟩
  | .hbm, ⟨16, _⟩ => ⟨S2x1024x5632, .bf16⟩
  | .hbm, ⟨17, _⟩ => ⟨S2x2816x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024x5632, .bf16⟩
  | .local _ .vmem, ⟨20, _⟩ => ⟨S1x2816x1024, .bf16⟩
  | .local _ .vmem, ⟨21, _⟩ => ⟨S1x1024, .f32⟩
  | .local _ .vmem, ⟨22, _⟩ => ⟨S1x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1024x2816, .bf16⟩
  | .local _ .vmem, ⟨26, _⟩ => ⟨S1024x1024, .f32⟩
  | .local _ .vmem, ⟨27, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== TailReferenceIdeal.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S2x1024x1024 : Shape := ⟨3, ![2, 1024, 1024]⟩
abbrev S4x1x1024 : Shape := ⟨3, ![4, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 131
  | .vmem => 0
  | .smem => 0
  | _ => 0

abbrev hbmTy0_0 (i : Nat) : BufTy := match i % 128 with
  | 0 => ⟨S4x4096x1024, .f32⟩
  | 1 => ⟨S4x4096x256, .bf16⟩
  | 2 => ⟨S4x4096x512, .bf16⟩
  | 3 => ⟨S4x4096x256, .bf16⟩
  | 4 => ⟨S2x1024x1024, .f32⟩
  | 5 => ⟨S4x1x1024, .f32⟩
  | 6 => ⟨S2x1024, .f32⟩
  | 7 => ⟨S2x1024, .f32⟩
  | 8 => ⟨S4x1x1024, .f32⟩
  | 9 => ⟨S4x1x1024, .f32⟩
  | 10 => ⟨S4x1x1024, .f32⟩
  | 11 => ⟨S2x1024x5632, .f32⟩
  | 12 => ⟨S2x2816x1024, .f32⟩
  | 13 => ⟨S2x1024, .f32⟩
  | 14 => ⟨S2x1024, .f32⟩
  | 15 => ⟨S4x4096x256, .f32⟩
  | 16 => ⟨S4x4096x512, .f32⟩
  | 17 => ⟨S4x4096x256, .f32⟩
  | 18 => ⟨S4x4096x1024, .f32⟩
  | 19 => ⟨S1x1024x1024, .f32⟩
  | 20 => ⟨S1024x1024, .f32⟩
  | 21 => ⟨S4x4096x1024, .f32⟩
  | 22 => ⟨S_, .f32⟩
  | 23 => ⟨S4x4096x1024, .f32⟩
  | 24 => ⟨S4x4096x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1024, .f32⟩
  | 34 => ⟨S1024, .f32⟩
  | 35 => ⟨S_, .f32⟩
  | 36 => ⟨S4x4096, .f32⟩
  | 37 => ⟨S4x4096x1, .f32⟩
  | 38 => ⟨S_, .f32⟩
  | 39 => ⟨S4x4096x1, .f32⟩
  | 40 => ⟨S4x4096x1, .f32⟩
  | 41 => ⟨S4x4096x1024, .f32⟩
  | 42 => ⟨S4x4096x1024, .f32⟩
  | 43 => ⟨S4x4096x1024, .f32⟩
  | 44 => ⟨S_, .f32⟩
  | 45 => ⟨S4x4096, .f32⟩
  | 46 => ⟨S4x4096x1, .f32⟩
  | 47 => ⟨S_, .f32⟩
  | 48 => ⟨S4x4096x1, .f32⟩
  | 49 => ⟨S4x4096x1, .f32⟩
  | 50 => ⟨S4x4096x1024, .f32⟩
  | 51 => ⟨S4x4096x1024, .f32⟩
  | 52 => ⟨S_, .f32⟩
  | 53 => ⟨S4x4096x1, .f32⟩
  | 54 => ⟨S4x4096x1, .f32⟩
  | 55 => ⟨S4x4096x1, .f32⟩
  | 56 => ⟨S4x4096x1024, .f32⟩
  | 57 => ⟨S4x4096x1024, .f32⟩
  | 58 => ⟨S1x1x1024, .f32⟩
  | 59 => ⟨S4x4096x1024, .f32⟩
  | 60 => ⟨S4x4096x1024, .f32⟩
  | 61 => ⟨S1x1x1024, .f32⟩
  | 62 => ⟨S4x4096x1024, .f32⟩
  | 63 => ⟨S4x4096x1024, .f32⟩
  | 64 => ⟨S_, .f32⟩
  | 65 => ⟨S4x1x1024, .f32⟩
  | 66 => ⟨S4x1x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S1x1024x5632, .f32⟩
  | 72 => ⟨S1024x5632, .f32⟩
  | 73 => ⟨S4x4096x5632, .f32⟩
  | 74 => ⟨S4x4096x2816, .f32⟩
  | 75 => ⟨S4x4096x2816, .f32⟩
  | 76 => ⟨S4x4096x2816, .f32⟩
  | 77 => ⟨S4x4096x2816, .f32⟩
  | 78 => ⟨S_, .f32⟩
  | 79 => ⟨S4x4096x2816, .f32⟩
  | 80 => ⟨S4x4096x2816, .f32⟩
  | 81 => ⟨S_, .f32⟩
  | 82 => ⟨S4x4096x2816, .f32⟩
  | 83 => ⟨S4x4096x2816, .f32⟩
  | 84 => ⟨S4x4096x2816, .f32⟩
  | 85 => ⟨S4x4096x2816, .f32⟩
  | 86 => ⟨S1x2816x1024, .f32⟩
  | 87 => ⟨S2816x1024, .f32⟩
  | 88 => ⟨S4x4096x1024, .f32⟩
  | 89 => ⟨S_, .f32⟩
  | 90 => ⟨S4x4096x1024, .f32⟩
  | 91 => ⟨S4x4096x1024, .f32⟩
  | 92 => ⟨S_, .f32⟩
  | 93 => ⟨S4x1x1024, .f32⟩
  | 94 => ⟨S4x1x1024, .f32⟩
  | 95 => ⟨S4x4096x1024, .f32⟩
  | 96 => ⟨S4x4096x1024, .f32⟩
  | 97 => ⟨S4x4096x1024, .f32⟩
  | 98 => ⟨S1x1024, .f32⟩
  | 99 => ⟨S1024, .f32⟩
  | 100 => ⟨S1x1024, .f32⟩
  | 101 => ⟨S1024, .f32⟩
  | 102 => ⟨S_, .f32⟩
  | 103 => ⟨S4x4096, .f32⟩
  | 104 => ⟨S4x4096x1, .f32⟩
  | 105 => ⟨S_, .f32⟩
  | 106 => ⟨S4x4096x1, .f32⟩
  | 107 => ⟨S4x4096x1, .f32⟩
  | 108 => ⟨S4x4096x1024, .f32⟩
  | 109 => ⟨S4x4096x1024, .f32⟩
  | 110 => ⟨S4x4096x1024, .f32⟩
  | 111 => ⟨S_, .f32⟩
  | 112 => ⟨S4x4096, .f32⟩
  | 113 => ⟨S4x4096x1, .f32⟩
  | 114 => ⟨S_, .f32⟩
  | 115 => ⟨S4x4096x1, .f32⟩
  | 116 => ⟨S4x4096x1, .f32⟩
  | 117 => ⟨S4x4096x1024, .f32⟩
  | 118 => ⟨S4x4096x1024, .f32⟩
  | 119 => ⟨S_, .f32⟩
  | 120 => ⟨S4x4096x1, .f32⟩
  | 121 => ⟨S4x4096x1, .f32⟩
  | 122 => ⟨S4x4096x1, .f32⟩
  | 123 => ⟨S4x4096x1024, .f32⟩
  | 124 => ⟨S4x4096x1024, .f32⟩
  | 125 => ⟨S1x1x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S1x1x1024, .f32⟩
  | 1 => ⟨S4x4096x1024, .f32⟩
  | 2 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_9 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_11 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Proof.Frames.lean ====
/- The frames of every program: each runs to the end, leaves its arguments as they were and every semaphore counter at zero. -/
module

public import proofs.«01_k».proof.Defs
public import proofs.«01_k».proof.Proof.Gen.Kernel.Frame
public import proofs.«01_k».proof.Proof.Gen.KernelIdeal.Frame
public import proofs.«01_k».proof.Proof.Gen.Tail.Frame
public import proofs.«01_k».proof.Proof.Gen.TailIdeal.Frame
public import proofs.«01_k».proof.Proof.Gen.Reference
public import proofs.«01_k».proof.Proof.Gen.ReferenceIdeal.Run
public import proofs.«01_k».proof.Proof.Gen.TailReferenceIdeal.Run
public import proofs.«01_k».proof.Proof.Gen.Pre_finite
public import Idealize.ShloMosaic.Lib.Claim

@[expose] public section

set_option maxRecDepth 16384

noncomputable section

namespace Cert.Proof.Frames

open Idealize.ShloMosaic Idealize.SL.Sem

/-- The attention kernel. -/
theorem kernel : Cert.quiescent_Kernel := fun m g _ => Cert.Kernel.Gen.frame m g

/-- The attention kernel at the extended reals. -/
theorem kernelIdeal : Cert.quiescent_KernelIdeal := fun m g _ => Cert.KernelIdeal.Gen.frame m g

/-- The tail kernel. -/
theorem tail : Cert.quiescent_Tail := fun m g _ => Cert.Tail.Gen.frame m g

/-- The tail kernel at the extended reals. -/
theorem tailIdeal : Cert.quiescent_TailIdeal := fun m g _ => Cert.TailIdeal.Gen.frame m g

/-- The attention's reference at the extended reals. -/
theorem referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The tail's reference at the extended reals. -/
theorem tailReferenceIdeal : Cert.quiescent_TailReferenceIdeal := fun m g _ =>
  (θ_run Cert.TailReferenceIdeal.defs _ _).mono (fun r h => ⟨fun c => (h c).2, sem_eq_zero_of_no_sems (by decide) r.2⟩)
    (Cert.TailReferenceIdeal.Value.run m g)

/-- The attention kernel at the extended reals, on finite arguments. -/
theorem kernelIdeal_finite : Cert.quiescent_KernelIdeal_pre_finite := fun m g _ => Cert.KernelIdeal.Gen.frame m g

/-- The attention's reference at the extended reals, on finite arguments. -/
theorem referenceIdeal_finite : Cert.quiescent_ReferenceIdeal_pre_finite := fun m g _ => referenceIdeal m g trivial

set_option maxHeartbeats 4000000 in
/-- The reference as written runs like its idealization: it has the same operations. -/
theorem reference : Cert.quiescent_Reference := fun m g _ => by
  refine (θ_run Cert.Reference.defs _ _).mono (fun r (h : ∀ c, _) => ⟨h, sem_eq_zero_of_no_sems (by decide) r.2⟩) (?_ : θ_run Cert.Reference.defs _ _ (fun r => ∀ c, _))
  exact (θ_run Cert.ReferenceIdeal.defs _ _).mono (fun r h c => (h c).2) (Cert.ReferenceIdeal.Value.run (F := Bits) m g)

/-- The attention kernel's three named constants are the ones its source spells. -/
theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "scale" .f32 0x3E38AA3B#32 _ rfl⟩

end Cert.Proof.Frames

end
-- ==== Proof.TailSpec.lean ====
/- One token's row of the layer's tail, over the extended reals: output projection of the three mixers' rows, the first
   DeepNorm residual and layer norm, the SwiGLU feed-forward, the second residual and layer norm. Both programs are
   compared with `row`; each shape and each tile is left behind before this file is reached. -/
module

public import Idealize.ShloMosaic.Lib.Pointwise

@[expose] public section

noncomputable section

namespace Cert.TailSpec

open Idealize.ShloMosaic

/-- The mean of a row of 1024 entries (a sum divided by the constant 1024.0). -/
def mean (u : Fin 1024 → EReal) : EReal := Ideal.div (∑ k, u k) (Ideal.ofBits .f32 0x44800000#32)

/-- Layer norm of a row: centred, times the reciprocal root of the variance plus epsilon, scaled and shifted. -/
def norm (u g b : Fin 1024 → EReal) (d : Fin 1024) : EReal :=
  (u d - mean u) * Ideal.rsqrt (mean (fun k => (u k - mean u) * (u k - mean u)) + Ideal.ofBits .f32 0x3727C5AC#32) * g d + b d

/-- The residual: alpha times the carried row plus the gated branch. -/
def mix (x gate y : Fin 1024 → EReal) (d : Fin 1024) : EReal :=
  Ideal.ofBits .f32 0x3FB504F3#32 * x d + (1 + gate d) * y d

/-- The three mixers' rows side by side. -/
def cat (yc : Fin 256 → EReal) (yr : Fin 512 → EReal) (ya : Fin 256 → EReal) (k : Fin 1024) : EReal :=
  if h : (k : ℕ) < 256 then yc ⟨k, h⟩ else if h' : (k : ℕ) - 256 < 512 then yr ⟨(k : ℕ) - 256, h'⟩ else ya ⟨(k : ℕ) - 256 - 512, by omega⟩

/-- A row times a matrix. -/
def proj {n p : ℕ} (v : Fin n → EReal) (W : Fin n → Fin p → EReal) (d : Fin p) : EReal := ∑ k, v k * W k d

/-- The row after the first residual and layer norm. -/
def first (x c : Fin 1024 → EReal) (Wo : Fin 1024 → Fin 1024 → EReal) (g1 l1g l1b : Fin 1024 → EReal) : Fin 1024 → EReal :=
  norm (mix x g1 (proj c Wo)) l1g l1b

/-- The feed-forward's input: the normed row, scaled and shifted by the token's modulation. -/
def modulate (x1 sc sh : Fin 1024 → EReal) (d : Fin 1024) : EReal := x1 d * (1 + sc d) + sh d

/-- The gated activation at a hidden unit: the gate's logistic unit times the other half of the projection. -/
def act (h : Fin 1024 → EReal) (W1 : Fin 1024 → Fin 5632 → EReal) (f : Fin 2816) : EReal :=
  proj h W1 ⟨f, by omega⟩ * Ideal.logistic (proj h W1 ⟨f, by omega⟩) * proj h W1 ⟨2816 + f, by omega⟩

/-- The row after the second residual and layer norm, from the row after the first. -/
def second (x1 sc sh g2 : Fin 1024 → EReal) (W1 : Fin 1024 → Fin 5632 → EReal) (W2 : Fin 2816 → Fin 1024 → EReal)
    (l2g l2b : Fin 1024 → EReal) : Fin 1024 → EReal :=
  norm (mix x1 g2 (proj (act (modulate x1 sc sh) W1) W2)) l2g l2b

end Cert.TailSpec

end
-- ==== Proof.TailPay.lean ====
/- What the tail's kernel body stores, read at an index: each stored block, over the vectors the body loaded, is a block of
   rows of `TailSpec`. The body repeats its lines once per group of 256 rows, and the program cuts the repetitions at
   different places: the first group's terms are read here, and the other groups' terms are the same terms. -/
module

public import proofs.«01_k».proof.Proof.TailSpec
public import proofs.«01_k».proof.Proof.Gen.TailIdeal.Skeleton

@[expose] public section

set_option maxRecDepth 16384

noncomputable section

namespace Cert.TailIdeal.RowValue

open Cert.TailIdeal Cert.TailIdeal.Gen Cert.TailSpec
open Idealize.ShloMosaic Idealize.ShloMosaic.TcCoe Idealize.SL.Sem

/-- Rows and matrices of loaded blocks. -/
def rw2 {n p : ℕ} (X : (⟨2, ![n, p]⟩ : Shape).Idx → EReal) (r : Fin n) : Fin p → EReal := fun d => X (ix2 r d)
def rw3 {n p : ℕ} (X : (⟨3, ![1, n, p]⟩ : Shape).Idx → EReal) (r : Fin n) : Fin p → EReal := fun d => X (ix3 0 r d)

/-- The output projection of a group's rows. -/
theorem y_at (a : FVec Ideal S1x256x256 .bf16) (b : FVec Ideal S1x256x512 .bf16) (c : FVec Ideal S1x256x256 .bf16) (w : FVec Ideal S1x1024x1024 .bf16)
    (r : Fin 256) (d : Fin 1024) : k0_pay2 (F := Ideal) a b c w (ix2 r d) = proj (cat (rw3 a r) (rw3 b r) (rw3 c r)) (rw3 w) d := by
  pointwise [k0_pay2]
  rfl

/-- The first residual of a group's rows. -/
theorem mix1_at (y : FVec Ideal S256x1024 .f32) (x : FVec Ideal S1x256x1024 .f32) (g : FVec Ideal S1x1x1024 .f32) (r : Fin 256) (d : Fin 1024) :
    k0_pay8 (F := Ideal) y x g (ix2 r d) = mix (rw3 x r) (rw3 g 0) (rw2 y r) d := by
  pointwise [k0_pay8]
  rfl

/-- Its layer norm. -/
theorem norm1_at (u : FVec Ideal S256x1024 .f32) (g b : FVec Ideal S1x1024 .f32) (r : Fin 256) (d : Fin 1024) :
    k0_pay11 (F := Ideal) u (k0_pay9 g) b (ix2 r d) = norm (rw2 u r) (rw2 g 0) (rw2 b 0) d := by
  pointwise [k0_pay11, k0_pay10, k0_pay9]
  rfl

/-- The feed-forward's input. -/
theorem mod_at (u : FVec Ideal S256x1024 .f32) (g b : FVec Ideal S1x1024 .f32) (sc sh : FVec Ideal S1x1x1024 .f32) (r : Fin 256) (d : Fin 1024) :
    k0_pay12 (F := Ideal) u (k0_pay9 g) b sc sh (ix2 r d) = modulate (norm (rw2 u r) (rw2 g 0) (rw2 b 0)) (rw3 sc 0) (rw3 sh 0) d := by
  pointwise [k0_pay12, k0_pay10, k0_pay9]
  rfl

/-- One chunk of 256 hidden units: the gate's unit times the other half. -/
theorem act_at (h : FVec Ideal S256x1024 .bf16) (w : FVec Ideal S1x1024x256 .bf16) (h' : FVec Ideal S256x1024 .bf16) (w' : FVec Ideal S1x1024x256 .bf16)
    (r : Fin 256) (j : Fin 256) : k0_pay29 (F := Ideal) h w h' w' (ix2 r j) =
      proj (rw2 h r) (rw3 w) j * Ideal.logistic (proj (rw2 h r) (rw3 w) j) * proj (rw2 h' r) (rw3 w') j := by
  pointwise [k0_pay29]
  rfl

/-- The second residual. -/
theorem mix2_at (a : FVec Ideal S256x2816 .bf16) (w : FVec Ideal S1x2816x1024 .bf16) (x : FVec Ideal S256x1024 .f32) (g : FVec Ideal S1x1x1024 .f32)
    (r : Fin 256) (d : Fin 1024) : k0_pay98 (F := Ideal) a w x g (ix2 r d) = mix (rw2 x r) (rw3 g 0) (proj (rw2 a r) (rw3 w)) d := by
  pointwise [k0_pay98]
  rfl

/-- Its layer norm, as stored. -/
theorem norm2_at (u : FVec Ideal S256x1024 .f32) (g b : FVec Ideal S1x1024 .f32) (r : Fin 256) (d : Fin 1024) :
    k0_pay99 (F := Ideal) u g b (ix3 0 r d) = norm (rw2 u r) (rw2 g 0) (rw2 b 0) d := by
  pointwise [k0_pay99]
  rfl

/-- The same, a row at a time. -/
theorem y_row (a : FVec Ideal S1x256x256 .bf16) (b : FVec Ideal S1x256x512 .bf16) (c : FVec Ideal S1x256x256 .bf16) (w : FVec Ideal S1x1024x1024 .bf16)
    (r : Fin 256) : rw2 (k0_pay2 (F := Ideal) a b c w) r = proj (cat (rw3 a r) (rw3 b r) (rw3 c r)) (rw3 w) := funext (y_at a b c w r)

/-- The first mix, row by row. -/
theorem mix1_row (y : FVec Ideal S256x1024 .f32) (x : FVec Ideal S1x256x1024 .f32) (g : FVec Ideal S1x1x1024 .f32) (r : Fin 256) :
    rw2 (k0_pay8 (F := Ideal) y x g) r = mix (rw3 x r) (rw3 g 0) (rw2 y r) := funext (mix1_at y x g r)

/-- The second mix, row by row. -/
theorem mix2_row (a : FVec Ideal S256x2816 .bf16) (w : FVec Ideal S1x2816x1024 .bf16) (x : FVec Ideal S256x1024 .f32) (g : FVec Ideal S1x1x1024 .f32)
    (r : Fin 256) : rw2 (k0_pay98 (F := Ideal) a w x g) r = mix (rw2 x r) (rw3 g 0) (proj (rw2 a r) (rw3 w)) := funext (mix2_at a w x g r)

/-! ## The other groups' terms -/

section Groups
variable (a : FVec Ideal S1x256x256 .bf16) (b : FVec Ideal S1x256x512 .bf16) (c : FVec Ideal S1x256x256 .bf16) (w : FVec Ideal S1x1024x1024 .bf16)
  (y : FVec Ideal S256x1024 .f32) (x : FVec Ideal S1x256x1024 .f32) (g : FVec Ideal S1x1x1024 .f32) (l l' : FVec Ideal S1x1024 .f32)
  (sc sh : FVec Ideal S1x1x1024 .f32) (h h' : FVec Ideal S256x1024 .bf16) (v v' : FVec Ideal S1x1024x256 .bf16)

/-- The output projection of the second, third and fourth groups. -/
theorem y_group1 : k0_pay3 (F := Ideal) a b c w = k0_pay2 (F := Ideal) a b c w := rfl
theorem y_group2 : k0_pay6 (F := Ideal) (k0_pay4 a) (k0_pay5 b) c w = k0_pay2 (F := Ideal) a b c w := rfl
theorem y_group3 : k0_pay7 (F := Ideal) a b c w = k0_pay2 (F := Ideal) a b c w := rfl

/-- The first residual and norm of those groups. -/
theorem x1_group1 : k0_pay14 (F := Ideal) y x g l l' = k0_pay11 (F := Ideal) (k0_pay8 y x g) (k0_pay9 l) l' := rfl
theorem x1_group2 : k0_pay22 (F := Ideal) (k0_pay17 l) (k0_pay18 l') (k0_pay19 y x g) (k0_pay20 y x g)
    = k0_pay11 (F := Ideal) (k0_pay8 y x g) (k0_pay9 l) l' := rfl
theorem x1_group3 : k0_pay26 (F := Ideal) (k0_pay24 y x g) l l' = k0_pay11 (F := Ideal) (k0_pay8 y x g) (k0_pay9 l) l' := rfl

/-- The feed-forward's input of those groups. -/
theorem h_group1 : k0_pay16 (F := Ideal) (k0_pay13 y x g l l') (k0_pay15 sc) (Scalar.ofBits .f32 0x3F800000#32) sh = k0_pay12 (F := Ideal) (k0_pay8 y x g) (k0_pay9 l) l' sc sh := rfl
theorem h_group2 : k0_pay23 (F := Ideal) (k0_pay17 l) (k0_pay18 l') (k0_pay19 y x g) (k0_pay20 y x g) sc sh
    = k0_pay12 (F := Ideal) (k0_pay8 y x g) (k0_pay9 l) l' sc sh := rfl
theorem h_group3 : k0_pay28 (F := Ideal) (k0_pay27 (k0_pay24 y x g) l l' sc sh) = k0_pay12 (F := Ideal) (k0_pay8 y x g) (k0_pay9 l) l' sc sh := rfl

variable (p : FVec Ideal S256x2816 .bf16) (q : FVec Ideal S1x2816x1024 .bf16) (u : FVec Ideal S256x1024 .f32)

/-- The output rows of those groups. -/
theorem o_group1 : k0_pay102 (F := Ideal) (k0_pay100 (k0_pay95 p q) u g) (k0_pay101 l) l' = k0_pay99 (F := Ideal) (k0_pay98 p q u g) l l' := rfl
theorem o_group2 : k0_pay105 (F := Ideal) (k0_pay103 (k0_pay96 p q) u g) (k0_pay104 l) l' = k0_pay99 (F := Ideal) (k0_pay98 p q u g) l l' := rfl
theorem o_group3 : k0_pay1 (F := Ideal) (k0_pay110 (k0_pay106 (k0_pay97 p q) u g) (k0_pay107 l) (k0_pay108 l') (k0_pay109 (k0_pay97 p q) u g))
    = k0_pay99 (F := Ideal) (k0_pay98 p q u g) l l' := rfl

end Groups

end Cert.TailIdeal.RowValue

end
-- ==== Proof.TailBlock.lean ====
/- The tail kernel's body at one grid point: what its scratches and its output block hold after the point, as rows of
   `TailSpec` of the point's input blocks. -/
module

public import proofs.«01_k».proof.Proof.TailPay
public import proofs.«01_k».proof.Proof.Gen.TailIdeal.Value
public import Idealize.ShloMosaic.Lib.Pipeline.ReadBack

@[expose] public section

set_option maxRecDepth 16384

noncomputable section

namespace Cert.TailIdeal.RowValue

open Cert.TailIdeal Cert.TailIdeal.Gen Cert.TailSpec
open Idealize.ShloMosaic Idealize.ShloMosaic.TcCoe Idealize.ShloMosaic.Tactic Idealize.SL.Sem

/-! ## Boxes of an array -/

/-- The box of `k` rows from row `o` and `n` columns from column `p` of a block with one leading coordinate. -/
def sub3 {α : Type} {m w : ℕ} (k n o p : ℕ) (h : o + k ≤ m) (h' : p + n ≤ w) (X : (⟨3, ![1, m, w]⟩ : Shape).Idx → α) :
    (⟨3, ![1, k, n]⟩ : Shape).Idx → α :=
  fun j => X (ix3 0 ⟨(j 1 : Fin k) + o, by have : (j 1 : Fin k).val < k := (j 1 : Fin k).isLt; omega⟩ ⟨(j 2 : Fin n) + p, by have : (j 2 : Fin n).val < n := (j 2 : Fin n).isLt; omega⟩)

/-- The same of a matrix. -/
def sub2 {α : Type} {m w : ℕ} (k n o p : ℕ) (h : o + k ≤ m) (h' : p + n ≤ w) (X : (⟨2, ![m, w]⟩ : Shape).Idx → α) :
    (⟨2, ![k, n]⟩ : Shape).Idx → α :=
  fun j => X (ix2 ⟨(j 0 : Fin k) + o, by have : (j 0 : Fin k).val < k := (j 0 : Fin k).isLt; omega⟩ ⟨(j 1 : Fin n) + p, by have : (j 1 : Fin n).val < n := (j 1 : Fin n).isLt; omega⟩)

theorem box3 {α : Type} {m w k n o p : ℕ} (inb : ∀ a : Fin 3, (![0, o, p] : Fin 3 → ℕ) a + (⟨3, ![1, k, n]⟩ : Shape).size a ≤ (⟨3, ![1, m, w]⟩ : Shape).size a)
    (X : (⟨3, ![1, m, w]⟩ : Shape).Idx → α) (h : o + k ≤ m) (h' : p + n ≤ w) :
    (fun j => X ((Rect.unit (s := (⟨3, ![1, m, w]⟩ : Shape)) ![0, o, p] (⟨3, ![1, k, n]⟩ : Shape).size inb).toLoadRect.idx j)) = sub3 k n o p h h' X := by
  funext j
  refine congrArg X ?_
  funext a; apply Fin.ext
  fin_cases a
  · have : (j 0).val < 1 := (j 0).isLt
    show 0 + 1 * (j 0).val = 0; omega
  · show o + 1 * (j 1).val = (j 1).val + o; omega
  · show p + 1 * (j 2).val = (j 2).val + p; omega

theorem box2 {α : Type} {m w k n o p : ℕ} (inb : ∀ a : Fin 2, (![o, p] : Fin 2 → ℕ) a + (⟨2, ![k, n]⟩ : Shape).size a ≤ (⟨2, ![m, w]⟩ : Shape).size a)
    (X : (⟨2, ![m, w]⟩ : Shape).Idx → α) (h : o + k ≤ m) (h' : p + n ≤ w) :
    (fun j => X ((Rect.unit (s := (⟨2, ![m, w]⟩ : Shape)) ![o, p] (⟨2, ![k, n]⟩ : Shape).size inb).toLoadRect.idx j)) = sub2 k n o p h h' X := by
  funext j
  refine congrArg X ?_
  funext a; apply Fin.ext
  fin_cases a
  · show o + 1 * (j 0).val = (j 0).val + o; omega
  · show p + 1 * (j 1).val = (j 1).val + p; omega

/-- A load of a box from an input's buffer, which holds its block. -/
theorem loadB {s : Shape} {e : EltTy} (arg : Memref sig .tc .vmem s e) (harg : arg.IsWhole) (B : LoadRect s) (X : Vec Ideal s e) :
    View.readAt (Elt Ideal) arg.view B (harg.unread X) = fun j => X (B.idx j) := by
  funext j
  rw [View.readAt_apply, harg.read_unread]

/-- A load of a box from a scratch whose stores are blocks of `G` and cover it. -/
theorem backB {s : Shape} {e : EltTy} (arg : Memref sig .tc .vmem s e) (L : List (View.Piece (Elt Ideal) s e)) (G : Vec Ideal s e)
    (hL : View.PiecesOf G L) (hc : ∀ y, ∃ q ∈ L, y ∈ q.1.set) (B : LoadRect s) : arg.view.readCov L B = fun j => G (B.idx j) := by
  rw [View.readCov_eq_canon', show View.canon L = G from funext fun y => View.canon_apply_of_pieces G L hL.mem y (hc y)]

/-! ## The blocks -/

section Blocks
variable (x0 : Vec Ideal S1x1024x1024 .f32) (x1 : Vec Ideal S1x1024x256 .bf16) (x2 : Vec Ideal S1x1024x512 .bf16) (x3 : Vec Ideal S1x1024x256 .bf16) (x4 : Vec Ideal S1x1024x1024 .bf16) (x5 : Vec Ideal S1x1x1024 .f32) (x6 : Vec Ideal S1x1024 .f32) (x7 : Vec Ideal S1x1024 .f32) (x8 : Vec Ideal S1x1x1024 .f32) (x9 : Vec Ideal S1x1x1024 .f32) (x10 : Vec Ideal S1x1x1024 .f32) (x11 : Vec Ideal S1x1024x5632 .bf16) (x12 : Vec Ideal S1x2816x1024 .bf16) (x13 : Vec Ideal S1x1024 .f32) (x14 : Vec Ideal S1x1024 .f32)

/-- The rows after the first residual and norm. -/
def X1 : Vec Ideal S1024x1024 .f32 := fun i =>
  first (rw3 x0 (i 0)) (cat (rw3 x1 (i 0)) (rw3 x2 (i 0)) (rw3 x3 (i 0))) (rw3 x4) (rw3 x5 0) (rw2 x6 0) (rw2 x7 0) (i 1)

/-- The feed-forward's input rows. -/
def Hm : Vec Ideal S1024x1024 .bf16 := fun i => modulate (rw2 (X1 x0 x1 x2 x3 x4 x5 x6 x7) (i 0)) (rw3 x8 0) (rw3 x9 0) (i 1)

/-- The gated hidden units. -/
def Am : Vec Ideal S1024x2816 .bf16 := fun i => act (rw2 (Hm x0 x1 x2 x3 x4 x5 x6 x7 x8 x9) (i 0)) (rw3 x11) (i 1)

/-- The output rows. -/
def Om : Vec Ideal S1x1024x1024 .f32 := fun i =>
  norm (mix (rw2 (X1 x0 x1 x2 x3 x4 x5 x6 x7) (i 1)) (rw3 x10 0) (proj (rw2 (Am x0 x1 x2 x3 x4 x5 x6 x7 x8 x9 x11) (i 1)) (rw3 x12))) (rw2 x13 0) (rw2 x14 0) (i 2)

end Blocks

section Pieces
variable (x0 : Vec Ideal S1x1024x1024 .f32) (x1 : Vec Ideal S1x1024x256 .bf16) (x2 : Vec Ideal S1x1024x512 .bf16) (x3 : Vec Ideal S1x1024x256 .bf16) (x4 : Vec Ideal S1x1024x1024 .bf16) (x5 : Vec Ideal S1x1x1024 .f32) (x6 : Vec Ideal S1x1024 .f32) (x7 : Vec Ideal S1x1024 .f32) (x8 : Vec Ideal S1x1x1024 .f32) (x9 : Vec Ideal S1x1x1024 .f32) (x10 : Vec Ideal S1x1x1024 .f32) (x11 : Vec Ideal S1x1024x5632 .bf16) (x12 : Vec Ideal S1x2816x1024 .bf16) (x13 : Vec Ideal S1x1024 .f32) (x14 : Vec Ideal S1x1024 .f32)

/-- A group of rows of the first scratch. -/
theorem X1_piece (o : ℕ) (h : o + 256 ≤ 1024) (inb : ∀ a : Fin 2, (![o, 0] : Fin 2 → ℕ) a + S256x1024.size a ≤ S1024x1024.size a) (j : S256x1024.Idx) :
    k0_pay11 (F := Ideal) (k0_pay8 (k0_pay2 (sub3 256 256 o 0 h (by decide) x1) (sub3 256 512 o 0 h (by decide) x2) (sub3 256 256 o 0 h (by decide) x3)
      (sub3 1024 1024 0 0 (by decide) (by decide) x4)) (sub3 256 1024 o 0 h (by decide) x0) (sub3 1 1024 0 0 (by decide) (by decide) x5))
      (k0_pay9 (sub2 1 1024 0 0 (by decide) (by decide) x6)) (sub2 1 1024 0 0 (by decide) (by decide) x7) j
      = X1 x0 x1 x2 x3 x4 x5 x6 x7 ((Rect.unit (s := S1024x1024) ![o, 0] S256x1024.size inb).emb j) := by
  idx_vars j
  rw [norm1_at, mix1_row, y_row]
  have e : (Rect.unit (s := S1024x1024) ![o, 0] S256x1024.size inb).emb (ix2 j0 j1) = ix2 (⟨j0 + o, by omega⟩ : Fin 1024) j1 := by
    funext a; apply Fin.ext
    fin_cases a
    · show o + 1 * j0.val = j0.val + o; omega
    · show 0 + 1 * j1.val = j1.val; omega
  rw [e]
  rfl

/-- A group of rows of the third scratch. -/
theorem Hm_piece (o : ℕ) (h : o + 256 ≤ 1024) (inb : ∀ a : Fin 2, (![o, 0] : Fin 2 → ℕ) a + S256x1024.size a ≤ S1024x1024.size a) (j : S256x1024.Idx) :
    k0_pay12 (F := Ideal) (k0_pay8 (k0_pay2 (sub3 256 256 o 0 h (by decide) x1) (sub3 256 512 o 0 h (by decide) x2) (sub3 256 256 o 0 h (by decide) x3)
      (sub3 1024 1024 0 0 (by decide) (by decide) x4)) (sub3 256 1024 o 0 h (by decide) x0) (sub3 1 1024 0 0 (by decide) (by decide) x5))
      (k0_pay9 (sub2 1 1024 0 0 (by decide) (by decide) x6)) (sub2 1 1024 0 0 (by decide) (by decide) x7)
      (sub3 1 1024 0 0 (by decide) (by decide) x8) (sub3 1 1024 0 0 (by decide) (by decide) x9) j
      = Hm x0 x1 x2 x3 x4 x5 x6 x7 x8 x9 ((Rect.unit (s := S1024x1024) ![o, 0] S256x1024.size inb).emb j) := by
  idx_vars j
  rw [mod_at, mix1_row, y_row]
  have e : (Rect.unit (s := S1024x1024) ![o, 0] S256x1024.size inb).emb (ix2 j0 j1) = ix2 (⟨j0 + o, by omega⟩ : Fin 1024) j1 := by
    funext a; apply Fin.ext
    fin_cases a
    · show o + 1 * j0.val = j0.val + o; omega
    · show 0 + 1 * j1.val = j1.val; omega
  rw [e]
  rfl

/-- A group of rows and a chunk of hidden units of the second scratch. -/
theorem Am_piece (H : Vec Ideal S1024x1024 .bf16) (o p p' : ℕ) (h : o + 256 ≤ 1024) (hp : p + 256 ≤ 5632) (hp' : p' + 256 ≤ 5632) (hpp : p' = 2816 + p)
    (inb : ∀ a : Fin 2, (![o, p] : Fin 2 → ℕ) a + S256x256.size a ≤ S1024x2816.size a) (j : S256x256.Idx) :
    k0_pay29 (F := Ideal) (sub2 256 1024 o 0 h (by decide) H) (sub3 1024 256 0 p (by decide) hp x11)
      (sub2 256 1024 o 0 h (by decide) H) (sub3 1024 256 0 p' (by decide) hp' x11) j
      = act (rw2 H ((Rect.unit (s := S1024x2816) ![o, p] S256x256.size inb).emb j 0)) (rw3 x11) ((Rect.unit (s := S1024x2816) ![o, p] S256x256.size inb).emb j 1) := by
  subst hpp
  idx_vars j
  rw [act_at]
  have h2 : p + 256 ≤ 2816 := inb 1
  have e : (Rect.unit (s := S1024x2816) ![o, p] S256x256.size inb).emb (ix2 j0 j1) = ix2 (⟨j0 + o, by omega⟩ : Fin 1024) (⟨j1 + p, by omega⟩ : Fin 2816) := by
    funext a; apply Fin.ext
    fin_cases a
    · show o + 1 * j0.val = j0.val + o; omega
    · show p + 1 * j1.val = j1.val + p; omega
  rw [e]
  have e2 : (⟨2816 + (j1.val + p), by omega⟩ : Fin 5632) = ⟨j1.val + (2816 + p), by omega⟩ := Fin.ext (by show 2816 + (j1.val + p) = j1.val + (2816 + p); omega)
  show _ = proj _ (rw3 x11) ⟨j1.val + p, _⟩ * Ideal.logistic (proj _ (rw3 x11) ⟨j1.val + p, _⟩) * proj _ (rw3 x11) ⟨2816 + (j1.val + p), _⟩
  rw [e2]
  rfl

/-- A group of rows of the output block. -/
theorem Om_piece (o : ℕ) (h : o + 256 ≤ 1024) (inb : ∀ a : Fin 3, (![0, o, 0] : Fin 3 → ℕ) a + S1x256x1024.size a ≤ S1x1024x1024.size a) (j : S1x256x1024.Idx) :
    k0_pay99 (F := Ideal) (k0_pay98 (sub2 256 2816 o 0 h (by decide) (Am x0 x1 x2 x3 x4 x5 x6 x7 x8 x9 x11)) (sub3 2816 1024 0 0 (by decide) (by decide) x12)
      (sub2 256 1024 o 0 h (by decide) (X1 x0 x1 x2 x3 x4 x5 x6 x7)) (sub3 1 1024 0 0 (by decide) (by decide) x10))
      (sub2 1 1024 0 0 (by decide) (by decide) x13) (sub2 1 1024 0 0 (by decide) (by decide) x14) j
      = Om x0 x1 x2 x3 x4 x5 x6 x7 x8 x9 x10 x11 x12 x13 x14 ((Rect.unit (s := S1x1024x1024) ![0, o, 0] S1x256x1024.size inb).emb j) := by
  idx_vars j
  obtain rfl : j0 = 0 := Subsingleton.elim _ _
  rw [norm2_at, mix2_row]
  have e : (Rect.unit (s := S1x1024x1024) ![0, o, 0] S1x256x1024.size inb).emb (ix3 0 j1 j2) = ix3 0 (⟨j1 + o, by omega⟩ : Fin 1024) j2 := by
    funext a; apply Fin.ext
    fin_cases a
    · rfl
    · show o + 1 * j1.val = j1.val + o; omega
    · show 0 + 1 * j2.val = j2.val; omega
  rw [e]
  rfl

end Pieces

end Cert.TailIdeal.RowValue

end
-- ==== Proof.TailRun.lean ====
/- The tail kernel's body at one grid point: what its scratches and its output block hold after the point, as rows of
   `TailSpec` of the point's input blocks. -/
module

public import proofs.«01_k».proof.Proof.TailBlock

@[expose] public section

set_option maxRecDepth 16384

noncomputable section

namespace Cert.TailIdeal.RowValue

open Cert.TailIdeal Cert.TailIdeal.Gen Cert.TailSpec
open Idealize.ShloMosaic Idealize.ShloMosaic.TcCoe Idealize.ShloMosaic.Tactic Idealize.SL.Sem

section Run
variable (c : Dev nD) (i : grid0.Coords) (arg2 : Memref sig .tc .vmem S1x1024x1024 .f32) (harg2 : arg2.IsWhole) (arg3 : Memref sig .tc .vmem S1x1024x256 .bf16) (harg3 : arg3.IsWhole) (arg4 : Memref sig .tc .vmem S1x1024x512 .bf16) (harg4 : arg4.IsWhole) (arg5 : Memref sig .tc .vmem S1x1024x256 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024x1024 .f32) (harg17 : arg17.IsWhole) (arg18 : Memref sig .tc .vmem S1024x2816 .bf16) (harg18 : arg18.IsWhole) (arg19 : Memref sig .tc .vmem S1024x1024 .f32) (harg19 : arg19.IsWhole) (arg20 : Memref sig .tc .vmem S1024x1024 .bf16) (harg20 : arg20.IsWhole)
  (x0 : Vec Ideal S1x1024x1024 .f32) (x1 : Vec Ideal S1x1024x256 .bf16) (x2 : Vec Ideal S1x1024x512 .bf16) (x3 : Vec Ideal S1x1024x256 .bf16) (x4 : Vec Ideal S1x1024x1024 .bf16) (x5 : Vec Ideal S1x1x1024 .f32) (x6 : Vec Ideal S1x1024 .f32) (x7 : Vec Ideal S1x1024 .f32) (x8 : Vec Ideal S1x1x1024 .f32) (x9 : Vec Ideal S1x1x1024 .f32) (x10 : Vec Ideal S1x1x1024 .f32) (x11 : Vec Ideal S1x1024x5632 .bf16) (x12 : Vec Ideal S1x2816x1024 .bf16) (x13 : Vec Ideal S1x1024 .f32) (x14 : Vec Ideal S1x1024 .f32)

/-- The four stores of the first norm's rows are blocks of one array. -/
theorem HS1_pieces : View.PiecesOf (X1 x0 x1 x2 x3 x4 x5 x6 x7) (kernelRun0_A.sl.HS1_4 c arg2 harg2 arg3 harg3 arg4 harg4 arg5 harg5 arg6 harg6 arg7 harg7 arg8 harg8 arg9 harg9 x0 x1 x2 x3 x4 x5 x6 x7) := by
  unfold kernelRun0_A.sl.HS1_4
  simp only [kernelRun0_A.sl.r_16, kernelRun0_A.sl.r_12, kernelRun0_A.sl.r_13, kernelRun0_A.sl.r_14, kernelRun0_A.sl.r_15, kernelRun0_A.sl.r_9, kernelRun0_A.sl.r_6, kernelRun0_A.sl.r_7, kernelRun0_A.sl.r_8, kernelRun0_A.sl.r_1, kernelRun0_A.sl.r_2, kernelRun0_A.sl.r_3, kernelRun0_A.sl.r_4, kernelRun0_A.sl.r_5, kernelRun0_A.sl.r, loadB, y_group1, y_group2, y_group3, x1_group1, x1_group2, x1_group3]
  simp (disch := decide) only [box3, box2]
  exact ⟨fun j => X1_piece x0 x1 x2 x3 x4 x5 x6 x7 768 (by decide) (by decide) j, fun j => X1_piece x0 x1 x2 x3 x4 x5 x6 x7 512 (by decide) (by decide) j, fun j => X1_piece x0 x1 x2 x3 x4 x5 x6 x7 256 (by decide) (by decide) j, fun j => X1_piece x0 x1 x2 x3 x4 x5 x6 x7 0 (by decide) (by decide) j, trivial⟩

/-- They cover the scratch. -/
theorem HS1_cover (y : S1024x1024.Idx) : ∃ q ∈ kernelRun0_A.sl.HS1_4 (F := Ideal) c arg2 harg2 arg3 harg3 arg4 harg4 arg5 harg5 arg6 harg6 arg7 harg7 arg8 harg8 arg9 harg9 x0 x1 x2 x3 x4 x5 x6 x7, y ∈ q.1.set :=
  View.cover_of_tiledL (kernelRun0_A.sl.HS1_4 (F := Ideal) c arg2 harg2 arg3 harg3 arg4 harg4 arg5 harg5 arg6 harg6 arg7 harg7 arg8 harg8 arg9 harg9 x0 x1 x2 x3 x4 x5 x6 x7) S256x1024.size (by sl_kernel_rfl) y

/-- The four stores of the modulated rows are blocks of one array. -/
theorem HS2_pieces : View.PiecesOf (Hm x0 x1 x2 x3 x4 x5 x6 x7 x8 x9) (kernelRun0_A.sl.HS2_4 c arg2 harg2 arg3 harg3 arg4 harg4 arg5 harg5 arg6 harg6 arg7 harg7 arg8 harg8 arg9 harg9 arg10 harg10 arg11 harg11 x0 x1 x2 x3 x4 x5 x6 x7 x8 x9) := by
  unfold kernelRun0_A.sl.HS2_4
  simp only [kernelRun0_A.sl.r_17, kernelRun0_A.sl.r_11, kernelRun0_A.sl.r_10, kernelRun0_A.sl.cst_97, kernelRun0_A.sl.r_16, kernelRun0_A.sl.r_12, kernelRun0_A.sl.r_13, kernelRun0_A.sl.r_14, kernelRun0_A.sl.r_15, kernelRun0_A.sl.r_9, kernelRun0_A.sl.r_6, kernelRun0_A.sl.r_7, kernelRun0_A.sl.r_8, kernelRun0_A.sl.r_1, kernelRun0_A.sl.r_2, kernelRun0_A.sl.r_3, kernelRun0_A.sl.r_4, kernelRun0_A.sl.r_5, kernelRun0_A.sl.r, loadB,
    y_group1, y_group2, y_group3, h_group1, h_group2, h_group3]
  simp (disch := decide) only [box3, box2]
  exact ⟨fun j => Hm_piece x0 x1 x2 x3 x4 x5 x6 x7 x8 x9 768 (by decide) (by decide) j, fun j => Hm_piece x0 x1 x2 x3 x4 x5 x6 x7 x8 x9 512 (by decide) (by decide) j, fun j => Hm_piece x0 x1 x2 x3 x4 x5 x6 x7 x8 x9 256 (by decide) (by decide) j, fun j => Hm_piece x0 x1 x2 x3 x4 x5 x6 x7 x8 x9 0 (by decide) (by decide) j, trivial⟩

/-- They cover the scratch. -/
theorem HS2_cover (y : S1024x1024.Idx) : ∃ q ∈ kernelRun0_A.sl.HS2_4 (F := Ideal) c arg2 harg2 arg3 harg3 arg4 harg4 arg5 harg5 arg6 harg6 arg7 harg7 arg8 harg8 arg9 harg9 arg10 harg10 arg11 harg11 x0 x1 x2 x3 x4 x5 x6 x7 x8 x9, y ∈ q.1.set :=
  View.cover_of_tiledL (kernelRun0_A.sl.HS2_4 (F := Ideal) c arg2 harg2 arg3 harg3 arg4 harg4 arg5 harg5 arg6 harg6 arg7 harg7 arg8 harg8 arg9 harg9 arg10 harg10 arg11 harg11 x0 x1 x2 x3 x4 x5 x6 x7 x8 x9) S256x1024.size (by sl_kernel_rfl) y

/-- The forty-four stores of the gated rows cover the scratch. -/
theorem HS0_cover (y : S1024x2816.Idx) : ∃ q ∈ kernelRun0_A.sl.HS0_44 (F := Ideal) c arg2 harg2 arg3 harg3 arg4 harg4 arg5 harg5 arg6 harg6 arg7 harg7 arg8 harg8 arg9 harg9 arg10 harg10 arg11 harg11 arg13 harg13 arg20 x0 x1 x2 x3 x4 x5 x6 x7 x8 x9 x11, y ∈ q.1.set :=
  View.cover_of_tiledL (kernelRun0_A.sl.HS0_44 (F := Ideal) c arg2 harg2 arg3 harg3 arg4 harg4 arg5 harg5 arg6 harg6 arg7 harg7 arg8 harg8 arg9 harg9 arg10 harg10 arg11 harg11 arg13 harg13 arg20 x0 x1 x2 x3 x4 x5 x6 x7 x8 x9 x11) S256x256.size (by sl_kernel_rfl) y

/-- They are blocks of one array. -/
theorem HS0_pieces : View.PiecesOf (Am x0 x1 x2 x3 x4 x5 x6 x7 x8 x9 x11) (kernelRun0_A.sl.HS0_44 c arg2 harg2 arg3 harg3 arg4 harg4 arg5 harg5 arg6 harg6 arg7 harg7 arg8 harg8 arg9 harg9 arg10 harg10 arg11 harg11 arg13 harg13 arg20 x0 x1 x2 x3 x4 x5 x6 x7 x8 x9 x11) := by
  unfold kernelRun0_A.sl.HS0_44
  simp only [kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39,
    kernelRun0_A.sl.v248, kernelRun0_A.sl.v263, kernelRun0_A.sl.v278, kernelRun0_A.sl.v293, loadB,
    backB arg20 _ _ (HS2_pieces c arg2 harg2 arg3 harg3 arg4 harg4 arg5 harg5 arg6 harg6 arg7 harg7 arg8 harg8 arg9 harg9 arg10 harg10 arg11 harg11 x0 x1 x2 x3 x4 x5 x6 x7 x8 x9) (HS2_cover c arg2 harg2 arg3 harg3 arg4 harg4 arg5 harg5 arg6 harg6 arg7 harg7 arg8 harg8 arg9 harg9 arg10 harg10 arg11 harg11 x0 x1 x2 x3 x4 x5 x6 x7 x8 x9)]
  simp (disch := decide) only [box3, box2]
  repeat' first | exact trivial | refine And.intro (fun j => ?_) ?_
  all_goals
    symm
    dsimp only
    refine Eq.trans (Am_piece x11 (Hm x0 x1 x2 x3 x4 x5 x6 x7 x8 x9) _ _ _ (by decide) (by decide) (by decide) rfl _ j).symm ?_
    rfl

/-- The four stores of the output are blocks of one array. -/
theorem out_pieces : View.PiecesOf (Om x0 x1 x2 x3 x4 x5 x6 x7 x8 x9 x10 x11 x12 x13 x14) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14).1 := by
  unfold kernelRun0_A
  simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53,
    kernelRun0_A.sl.v908, kernelRun0_A.sl.v912, kernelRun0_A.sl.v916, kernelRun0_A.sl.v920,
    kernelRun0_A.sl.v924, kernelRun0_A.sl.v961, kernelRun0_A.sl.v998, kernelRun0_A.sl.v1035, loadB,
    backB arg19 _ _ (HS1_pieces c arg2 harg2 arg3 harg3 arg4 harg4 arg5 harg5 arg6 harg6 arg7 harg7 arg8 harg8 arg9 harg9 x0 x1 x2 x3 x4 x5 x6 x7) (HS1_cover c arg2 harg2 arg3 harg3 arg4 harg4 arg5 harg5 arg6 harg6 arg7 harg7 arg8 harg8 arg9 harg9 x0 x1 x2 x3 x4 x5 x6 x7),
    backB arg18 _ _ (HS0_pieces c arg2 harg2 arg3 harg3 arg4 harg4 arg5 harg5 arg6 harg6 arg7 harg7 arg8 harg8 arg9 harg9 arg10 harg10 arg11 harg11 arg13 harg13 arg20 x0 x1 x2 x3 x4 x5 x6 x7 x8 x9 x11) (HS0_cover c arg2 harg2 arg3 harg3 arg4 harg4 arg5 harg5 arg6 harg6 arg7 harg7 arg8 harg8 arg9 harg9 arg10 harg10 arg11 harg11 arg13 harg13 arg20 x0 x1 x2 x3 x4 x5 x6 x7 x8 x9 x11),
    o_group1, o_group2, o_group3]
  simp (disch := decide) only [box3, box2]
  exact ⟨fun j => Om_piece x0 x1 x2 x3 x4 x5 x6 x7 x8 x9 x10 x11 x12 x13 x14 768 (by decide) (by decide) j, fun j => Om_piece x0 x1 x2 x3 x4 x5 x6 x7 x8 x9 x10 x11 x12 x13 x14 512 (by decide) (by decide) j,
    fun j => Om_piece x0 x1 x2 x3 x4 x5 x6 x7 x8 x9 x10 x11 x12 x13 x14 256 (by decide) (by decide) j, fun j => Om_piece x0 x1 x2 x3 x4 x5 x6 x7 x8 x9 x10 x11 x12 x13 x14 0 (by decide) (by decide) j, trivial⟩

/-- What the body leaves in the output's buffer at a point: `Om` of the point's blocks. -/
theorem out_eq : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 = Om x0 x1 x2 x3 x4 x5 x6 x7 x8 x9 x10 x11 x12 x13 x14 := by
  unfold out0_A_15
  rw [View.read_writes_junk_eq_canon]
  exact funext fun y => View.canon_apply_of_pieces _ _ (out_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14).mem y
    (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 y)

end Run

end Cert.TailIdeal.RowValue

end
-- ==== Proof.TailRef.lean ====
/- The reference's tail, read at an index: each of its named intermediate arrays is, at batch entry `b` and token `t`, the
   corresponding row of `TailSpec`. -/
module

public import proofs.«01_k».proof.Proof.TailSpec
public import proofs.«01_k».proof.Proof.Gen.TailReferenceIdeal.Run
public import Idealize.ShloMosaic.Lib.Tactic.CleanTypes

@[expose] public section

set_option maxRecDepth 16384

noncomputable section

namespace Cert.TailReferenceIdeal.RowValue

open Cert.TailReferenceIdeal Cert.TailReferenceIdeal.Gen Cert.TailReferenceIdeal.Value Cert.TailSpec
open Idealize.ShloMosaic Idealize.ShloMosaic.TcCoe Idealize.SL.Sem

/-- The rows and matrices the reference reads, at batch entry `b` and token `t`; of the stacked weights, layer 1. -/
def tok {p : ℕ} (X : (⟨3, ![4, 4096, p]⟩ : Shape).Idx → EReal) (b : Fin 4) (t : Fin 4096) : Fin p → EReal := fun d => X (ix3 b t d)
def cond (X : S4x1x1024.Idx → EReal) (b : Fin 4) : Fin 1024 → EReal := fun d => X (ix3 b 0 d)
def par (X : S2x1024.Idx → EReal) : Fin 1024 → EReal := fun d => X (ix2 1 d)
def mat {n p : ℕ} (X : (⟨3, ![2, n, p]⟩ : Shape).Idx → EReal) : Fin n → Fin p → EReal := fun k d => X (ix3 1 k d)

section
variable (x0 : FVec Ideal S4x4096x1024 .f32) (x1 : FVec Ideal S4x4096x256 .bf16) (x2 : FVec Ideal S4x4096x512 .bf16) (x3 : FVec Ideal S4x4096x256 .bf16)
  (x4 : FVec Ideal S2x1024x1024 .f32) (x5 : FVec Ideal S4x1x1024 .f32) (x6 x7 : FVec Ideal S2x1024 .f32) (x8 x9 x10 : FVec Ideal S4x1x1024 .f32)
  (x11 : FVec Ideal S2x1024x5632 .f32) (x12 : FVec Ideal S2x2816x1024 .f32) (x13 x14 : FVec Ideal S2x1024 .f32)

/-- The whole tail at batch entry `b` and token `t`. -/
def firstRow (b : Fin 4) (t : Fin 4096) : Fin 1024 → EReal :=
  first (tok x0 b t) (cat (tok x1 b t) (tok x2 b t) (tok x3 b t)) (mat x4) (cond x5 b) (par x6) (par x7)

def outRow (b : Fin 4) (t : Fin 4096) : Fin 1024 → EReal :=
  second (firstRow x0 x1 x2 x3 x4 x5 x6 x7 b t) (cond x8 b) (cond x9 b) (cond x10 b) (mat x11) (mat x12) (par x13) (par x14)
end

variable (V : Valuation τ sig (Elt Ideal)) (b : Fin 4) (t : Fin 4096)

/-- The arguments and the named intermediate arrays, at their shapes. -/
abbrev x0 : FVec Ideal S4x4096x1024 .f32 := V (Proc.devRef .tc main_arg0)
abbrev x1 : FVec Ideal S4x4096x256 .bf16 := V (Proc.devRef .tc main_arg1)
abbrev x2 : FVec Ideal S4x4096x512 .bf16 := V (Proc.devRef .tc main_arg2)
abbrev x3 : FVec Ideal S4x4096x256 .bf16 := V (Proc.devRef .tc main_arg3)
abbrev x4 : FVec Ideal S2x1024x1024 .f32 := V (Proc.devRef .tc main_arg4)
abbrev x5 : FVec Ideal S4x1x1024 .f32 := V (Proc.devRef .tc main_arg5)
abbrev x6 : FVec Ideal S2x1024 .f32 := V (Proc.devRef .tc main_arg6)
abbrev x7 : FVec Ideal S2x1024 .f32 := V (Proc.devRef .tc main_arg7)
abbrev x8 : FVec Ideal S4x1x1024 .f32 := V (Proc.devRef .tc main_arg8)
abbrev x9 : FVec Ideal S4x1x1024 .f32 := V (Proc.devRef .tc main_arg9)
abbrev x10 : FVec Ideal S4x1x1024 .f32 := V (Proc.devRef .tc main_arg10)
abbrev x11 : FVec Ideal S2x1024x5632 .f32 := V (Proc.devRef .tc main_arg11)
abbrev x12 : FVec Ideal S2x2816x1024 .f32 := V (Proc.devRef .tc main_arg12)
abbrev x13 : FVec Ideal S2x1024 .f32 := V (Proc.devRef .tc main_arg13)
abbrev x14 : FVec Ideal S2x1024 .f32 := V (Proc.devRef .tc main_arg14)
abbrev v13 : FVec Ideal S4x4096x1024 .f32 := res_main_v13 V
abbrev v21 : FVec Ideal S4x4096x1 .f32 := res_main_v21 V
abbrev v23 : FVec Ideal S4x4096x1024 .f32 := res_main_v23 V
abbrev v41 : FVec Ideal S4x4096x1024 .f32 := res_main_v41 V
abbrev v50 : FVec Ideal S4x4096x5632 .f32 := res_main_v50 V
abbrev v51 : FVec Ideal S4x4096x2816 .f32 := res_main_v51 V
abbrev v64 : FVec Ideal S4x4096x1024 .f32 := res_main_v64 V
abbrev v72 : FVec Ideal S4x4096x1 .f32 := res_main_v72 V
abbrev v74 : FVec Ideal S4x4096x1024 .f32 := res_main_v74 V

/-- The first residual. -/
theorem v13_at (d : Fin 1024) : v13 V (ix3 b t d) =
    mix (tok (x0 V) b t) (cond (x5 V) b) (proj (cat (tok (x1 V) b t) (tok (x2 V) b t) (tok (x3 V) b t)) (mat (x4 V))) d := by
  unfold v13 res_main_v13
  clean_types
  pointwise
  rfl

/-- Its mean. -/
theorem v21_at : v21 V (ix3 b t 0) = mean (tok (v13 V) b t) := by
  unfold v21 res_main_v21
  clean_types
  pointwise
  rfl

/-- The centred residual. -/
theorem v23_at (d : Fin 1024) : v23 V (ix3 b t d) = v13 V (ix3 b t d) - mean (tok (v13 V) b t) := by
  rw [← v21_at]
  unfold v23 res_main_v23
  clean_types
  pointwise

/-- The first layer norm of the residual. -/
theorem v41_at (d : Fin 1024) : v41 V (ix3 b t d) = norm (tok (v13 V) b t) (par (x6 V)) (par (x7 V)) d := by
  unfold v41 res_main_v41
  clean_types
  pointwise [v21_at V b t, v23_at V b t]
  rfl

/-- The row after the first residual and layer norm. -/
theorem v41_row : tok (v41 V) b t = firstRow (x0 V) (x1 V) (x2 V) (x3 V) (x4 V) (x5 V) (x6 V) (x7 V) b t := by
  have h : tok (v13 V) b t = mix (tok (x0 V) b t) (cond (x5 V) b)
      (proj (cat (tok (x1 V) b t) (tok (x2 V) b t) (tok (x3 V) b t)) (mat (x4 V))) := funext fun d => v13_at V b t d
  funext d
  refine (v41_at V b t d).trans ?_
  rw [h]
  rfl

/-- The feed-forward's first product. -/
theorem v50_at (f : Fin 5632) : v50 V (ix3 b t f) = proj (modulate (tok (v41 V) b t) (cond (x8 V) b) (cond (x9 V) b)) (mat (x11 V)) f := by
  unfold v50 res_main_v50
  clean_types
  pointwise
  rfl

/-- Its first half, the gate's. -/
theorem v51_at (f : Fin 2816) : v51 V (ix3 b t f) = v50 V (ix3 b t ⟨f, by omega⟩) := by
  unfold v51 res_main_v51
  clean_types
  pointwise

/-- The second residual. -/
theorem v64_at (d : Fin 1024) : v64 V (ix3 b t d) = mix (tok (v41 V) b t) (cond (x10 V) b)
    (proj (act (modulate (tok (v41 V) b t) (cond (x8 V) b) (cond (x9 V) b)) (mat (x11 V))) (mat (x12 V))) d := by
  unfold v64 res_main_v64
  clean_types
  pointwise [v51_at V b t, v50_at V b t]
  rfl

/-- Its mean. -/
theorem v72_at : v72 V (ix3 b t 0) = mean (tok (v64 V) b t) := by
  unfold v72 res_main_v72
  clean_types
  pointwise
  rfl

/-- The centred second residual. -/
theorem v74_at (d : Fin 1024) : v74 V (ix3 b t d) = v64 V (ix3 b t d) - mean (tok (v64 V) b t) := by
  rw [← v72_at]
  unfold v74 res_main_v74
  clean_types
  pointwise

/-- The second residual's row. -/
theorem v64_row : tok (v64 V) b t = mix (tok (v41 V) b t) (cond (x10 V) b)
    (proj (act (modulate (tok (v41 V) b t) (cond (x8 V) b) (cond (x9 V) b)) (mat (x11 V))) (mat (x12 V))) :=
  funext fun d => v64_at V b t d

/-- The reference's result array. -/
def refOut (V : Valuation τ sig (Elt Ideal)) : FVec Ideal S4x4096x1024 .f32 :=
  val2 V (Proc.devRef .tc main_v92)

/-- The result at batch entry `b`, token `t`, is the tail's row there. -/
theorem refOut_at (d : Fin 1024) : refOut V (ix3 b t d) =
    outRow (x0 V) (x1 V) (x2 V) (x3 V) (x4 V) (x5 V) (x6 V) (x7 V) (x8 V) (x9 V) (x10 V) (x11 V) (x12 V) (x13 V) (x14 V) b t d := by
  have h : refOut V (ix3 b t d) = norm (tok (v64 V) b t) (par (x13 V)) (par (x14 V)) d := by
    unfold refOut
    rw [val2_main_v92]
    clean_types
    pointwise [v72_at V b t, v74_at V b t]
    rfl
  rw [h, v64_row, v41_row]
  rfl

end Cert.TailReferenceIdeal.RowValue

end
-- ==== Proof.TailFinal.lean ====
/- The tail kernel's result array after its run: every block a grid point writes back is the same rows of one array, `outArr`. -/
module

public import proofs.«01_k».proof.Proof.TailRun
public import proofs.«01_k».proof.Proof.TailRef
public import Idealize.ShloMosaic.Lib.Pipeline.ValueKit

@[expose] public section

set_option maxRecDepth 16384

noncomputable section

namespace Cert.TailIdeal.RowValue

open Cert.TailIdeal Cert.TailIdeal.Gen Cert.TailSpec
open Cert.TailReferenceIdeal.RowValue (tok par mat firstRow outRow)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD) (t : Fin cfg0.N)

/-- The arguments, at their shapes. -/
abbrev A0 : FVec Ideal S4x4096x1024 .f32 := m ((c : Thread nD τ).loc main_arg0)
abbrev A1 : FVec Ideal S4x4096x256 .bf16 := m ((c : Thread nD τ).loc main_arg1)
abbrev A2 : FVec Ideal S4x4096x512 .bf16 := m ((c : Thread nD τ).loc main_arg2)
abbrev A3 : FVec Ideal S4x4096x256 .bf16 := m ((c : Thread nD τ).loc main_arg3)
abbrev A4 : FVec Ideal S2x1024x1024 .f32 := m ((c : Thread nD τ).loc main_arg4)
abbrev A5 : FVec Ideal S4x1x1024 .f32 := m ((c : Thread nD τ).loc main_arg5)
abbrev A6 : FVec Ideal S2x1024 .f32 := m ((c : Thread nD τ).loc main_arg6)
abbrev A7 : FVec Ideal S2x1024 .f32 := m ((c : Thread nD τ).loc main_arg7)
abbrev A8 : FVec Ideal S4x1x1024 .f32 := m ((c : Thread nD τ).loc main_arg8)
abbrev A9 : FVec Ideal S4x1x1024 .f32 := m ((c : Thread nD τ).loc main_arg9)
abbrev A10 : FVec Ideal S4x1x1024 .f32 := m ((c : Thread nD τ).loc main_arg10)
abbrev A11 : FVec Ideal S2x1024x5632 .f32 := m ((c : Thread nD τ).loc main_arg11)
abbrev A12 : FVec Ideal S2x2816x1024 .f32 := m ((c : Thread nD τ).loc main_arg12)
abbrev A13 : FVec Ideal S2x1024 .f32 := m ((c : Thread nD τ).loc main_arg13)
abbrev A14 : FVec Ideal S2x1024 .f32 := m ((c : Thread nD τ).loc main_arg14)

/-- Every window's block at a grid point. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![1, 0, 0] ∧ win0_5.index t = ![t.val / 4, 0, 0] ∧ win0_6.index t = ![0, 0] ∧ win0_7.index t = ![0, 0] ∧ win0_8.index t = ![t.val / 4, 0, 0] ∧ win0_9.index t = ![t.val / 4, 0, 0] ∧ win0_10.index t = ![t.val / 4, 0, 0] ∧ win0_11.index t = ![1, 0, 0] ∧ win0_12.index t = ![1, 0, 0] ∧ win0_13.index t = ![0, 0] ∧ win0_14.index t = ![0, 0] ∧ win0_15.index t = ![t.val / 4, t.val % 4, 0] :=
  (by decide +kernel : ∀ t : Fin grid0.N, _)

/-- The grid point's batch element and its rows' tokens. -/
def bt : Fin 4 := ⟨t.val / 4, by have : t.val < 16 := t.isLt; omega⟩
def tk (r : Fin 1024) : Fin 4096 := ⟨t.val % 4 * 1024 + r.val, by omega⟩

/-- Window 0's block, as rows of its argument. -/
theorem row0 (r : Fin 1024) : rw3 (iblk m c 0 t) r = tok (A0 m c) (bt t) (tk t r) := by
  funext d
  unfold rw3 tok A0 bt tk
  blk_ext [iblk, V, idx t]

/-- Window 1's block, as rows of its argument. -/
theorem row1 (r : Fin 1024) : rw3 (iblk m c 1 t) r = tok (A1 m c) (bt t) (tk t r) := by
  funext d
  unfold rw3 tok A1 bt tk
  blk_ext [iblk, V, idx t]

/-- Window 2's block, as rows of its argument. -/
theorem row2 (r : Fin 1024) : rw3 (iblk m c 2 t) r = tok (A2 m c) (bt t) (tk t r) := by
  funext d
  unfold rw3 tok A2 bt tk
  blk_ext [iblk, V, idx t]

/-- Window 3's block, as rows of its argument. -/
theorem row3 (r : Fin 1024) : rw3 (iblk m c 3 t) r = tok (A3 m c) (bt t) (tk t r) := by
  funext d
  unfold rw3 tok A3 bt tk
  blk_ext [iblk, V, idx t]

/-- Window 4's block, as rows of its argument. -/
theorem row4 : rw3 (iblk m c 4 t) = mat (A4 m c) := by
  funext k d
  unfold rw3 mat A4
  blk_simp [iblk, V, idx t]
  entry_read
  pointwise
  blk_ext [iblk, V, idx t]

/-- Window 5's block, as rows of its argument. -/
theorem row5 : rw3 (iblk m c 5 t) 0 = TailReferenceIdeal.RowValue.cond (A5 m c) (bt t) := by
  funext d
  unfold rw3 TailReferenceIdeal.RowValue.cond A5 bt
  blk_ext [iblk, V, idx t]

/-- Window 6's block, as rows of its argument. -/
theorem row6 : rw2 (iblk m c 6 t) 0 = par (A6 m c) := by
  funext d
  unfold rw2 par A6
  blk_simp [iblk, V, idx t]
  entry_read
  pointwise
  blk_ext [iblk, V, idx t]

/-- Window 7's block, as rows of its argument. -/
theorem row7 : rw2 (iblk m c 7 t) 0 = par (A7 m c) := by
  funext d
  unfold rw2 par A7
  blk_simp [iblk, V, idx t]
  entry_read
  pointwise
  blk_ext [iblk, V, idx t]

/-- Window 8's block, as rows of its argument. -/
theorem row8 : rw3 (iblk m c 8 t) 0 = TailReferenceIdeal.RowValue.cond (A8 m c) (bt t) := by
  funext d
  unfold rw3 TailReferenceIdeal.RowValue.cond A8 bt
  blk_ext [iblk, V, idx t]

/-- Window 9's block, as rows of its argument. -/
theorem row9 : rw3 (iblk m c 9 t) 0 = TailReferenceIdeal.RowValue.cond (A9 m c) (bt t) := by
  funext d
  unfold rw3 TailReferenceIdeal.RowValue.cond A9 bt
  blk_ext [iblk, V, idx t]

/-- Window 10's block, as rows of its argument. -/
theorem row10 : rw3 (iblk m c 10 t) 0 = TailReferenceIdeal.RowValue.cond (A10 m c) (bt t) := by
  funext d
  unfold rw3 TailReferenceIdeal.RowValue.cond A10 bt
  blk_ext [iblk, V, idx t]

/-- Window 11's block, as rows of its argument. -/
theorem row11 : rw3 (iblk m c 11 t) = mat (A11 m c) := by
  funext k d
  unfold rw3 mat A11
  blk_simp [iblk, V, idx t]
  entry_read
  pointwise
  blk_ext [iblk, V, idx t]

/-- Window 12's block, as rows of its argument. -/
theorem row12 : rw3 (iblk m c 12 t) = mat (A12 m c) := by
  funext k d
  unfold rw3 mat A12
  blk_simp [iblk, V, idx t]
  entry_read
  pointwise
  blk_ext [iblk, V, idx t]

/-- Window 13's block, as rows of its argument. -/
theorem row13 : rw2 (iblk m c 13 t) 0 = par (A13 m c) := by
  funext d
  unfold rw2 par A13
  blk_simp [iblk, V, idx t]
  entry_read
  pointwise
  blk_ext [iblk, V, idx t]

/-- Window 14's block, as rows of its argument. -/
theorem row14 : rw2 (iblk m c 14 t) 0 = par (A14 m c) := by
  funext d
  unfold rw2 par A14
  blk_simp [iblk, V, idx t]
  entry_read
  pointwise
  blk_ext [iblk, V, idx t]

/-- The array the kernel computes. -/
def outArr : Buf (Elt Ideal) ((c : Thread nD τ).loc main_v15) := fun i : S4x4096x1024.Idx =>
  outRow (A0 m c) (A1 m c) (A2 m c) (A3 m c) (A4 m c) (A5 m c) (A6 m c) (A7 m c) (A8 m c) (A9 m c) (A10 m c) (A11 m c) (A12 m c) (A13 m c) (A14 m c) (i 0) (i 1) (i 2)

/-- A point's output block is its rows of that array. -/
theorem out_rows (r d : Fin 1024) : Om (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r d) = outRow (A0 m c) (A1 m c) (A2 m c) (A3 m c) (A4 m c) (A5 m c) (A6 m c) (A7 m c) (A8 m c) (A9 m c) (A10 m c) (A11 m c) (A12 m c) (A13 m c) (A14 m c) (bt t) (tk t r) d := by
  show norm (mix (first (rw3 (iblk m c 0 t) r) (cat (rw3 (iblk m c 1 t) r) (rw3 (iblk m c 2 t) r) (rw3 (iblk m c 3 t) r)) (rw3 (iblk m c 4 t)) (rw3 (iblk m c 5 t) 0) (rw2 (iblk m c 6 t) 0) (rw2 (iblk m c 7 t) 0)) (rw3 (iblk m c 10 t) 0)
    (proj (act (modulate (first (rw3 (iblk m c 0 t) r) (cat (rw3 (iblk m c 1 t) r) (rw3 (iblk m c 2 t) r) (rw3 (iblk m c 3 t) r)) (rw3 (iblk m c 4 t)) (rw3 (iblk m c 5 t) 0) (rw2 (iblk m c 6 t) 0) (rw2 (iblk m c 7 t) 0))
      (rw3 (iblk m c 8 t) 0) (rw3 (iblk m c 9 t) 0)) (rw3 (iblk m c 11 t))) (rw3 (iblk m c 12 t)))) (rw2 (iblk m c 13 t) 0) (rw2 (iblk m c 14 t) 0) d = _
  rw [row0, row1, row2, row3, row4, row5, row6, row7, row8, row9, row10, row11, row12, row13, row14]
  rfl

/-- The result array after the run. -/
theorem final : (dats m 0 c).arrAt 15 cfg0.N = outArr m c := by
  refine (dats m 0 c).arrAt_eq_of_covers 15 _ (by decide +kernel) fun t hf y => ?_
  blk_simp
  rw [after0_15]
  unfold outsAt0
  rw [out_eq]
  refine (out_rows m c t (y 1) (y 2)).trans ?_
  show outArr m c (ix3 (bt t) (tk t (y 1)) (y 2)) = _
  unfold bt tk
  blk_ext [iblk, V, idx t]

end Cert.TailIdeal.RowValue

end
-- ==== Proof.TailClaim.lean ====
/- The value claim of the tail: at the extended reals the kernel's result array and the reference's are the same rows. -/
module

public import proofs.«01_k».proof.Defs
public import proofs.«01_k».proof.Proof.TailFinal
public import Idealize.ShloMosaic.Lib.Claim

@[expose] public section

set_option maxRecDepth 16384

noncomputable section

namespace Cert.Proof.TailClaim

open Idealize.ShloMosaic Idealize.SL.Sem

set_option maxHeartbeats 4000000 in
/-- Both runs end with the array of rows `outRow` of arguments that agree. -/
theorem algebraic : Cert.algebraic_TailIdeal_TailReferenceIdeal := by
  pair_intro
  · run_from Cert.TailIdeal.Value.run_blocks m g
  · refine (θ_run Cert.TailReferenceIdeal.defs _ _).mono (fun _ h c => ⟨(h c).1.trans ?_, (h c).2⟩)
      (Cert.TailReferenceIdeal.Value.run m' g')
    rw [Cert.TailIdeal.RowValue.final m c]
    refine (Cert.TailReferenceIdeal.Value.val2_main_v92 (StableHlo.launchContents m' c)).symm.trans ?_
    change Cert.TailReferenceIdeal.RowValue.refOut (StableHlo.launchContents m' c) = _
    obtain ⟨h0, h1, h2, h3, h4, h5, h6, h7, h8, h9, h10, h11, h12, h13, h14⟩ := hagree c
    funext i
    obtain ⟨b, t, d, rfl⟩ : ∃ b t d, i = ix3 b t d := ⟨i 0, i 1, i 2, by funext k; fin_cases k <;> rfl⟩
    rw [Cert.TailReferenceIdeal.RowValue.refOut_at]
    change Cert.TailReferenceIdeal.RowValue.outRow (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg1)) (m' ((c.tc : Thread Cert.TailReferenceIdeal.nD Cert.TailReferenceIdeal.τ).loc Cert.TailReferenceIdeal.main_arg2)) (m' ((c.tc : Thread Cert.TailReferenceIdeal.nD Cert.TailReferenceIdeal.τ).loc Cert.TailReferenceIdeal.main_arg3)) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg5)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) (m' ((c.tc : Thread Cert.TailReferenceIdeal.nD Cert.TailReferenceIdeal.τ).loc Cert.TailReferenceIdeal.main_arg9)) (m' ((c.tc : Thread Cert.TailReferenceIdeal.nD Cert.TailReferenceIdeal.τ).loc Cert.TailReferenceIdeal.main_arg10)) (m' ((c.tc : Thread Cert.TailReferenceIdeal.nD Cert.TailReferenceIdeal.τ).loc Cert.TailReferenceIdeal.main_arg11)) (m' ((c.tc : Thread Cert.TailReferenceIdeal.nD Cert.TailReferenceIdeal.τ).loc Cert.TailReferenceIdeal.main_arg12)) (m' ((c.tc : Thread Cert.TailReferenceIdeal.nD Cert.TailReferenceIdeal.τ).loc Cert.TailReferenceIdeal.main_arg13)) (m' ((c.tc : Thread Cert.TailReferenceIdeal.nD Cert.TailReferenceIdeal.τ).loc Cert.TailReferenceIdeal.main_arg14)) b t d = _
    rw [h0, h1, h2, h3, h4, h5, h6, h7, h8, h9, h10, h11, h12, h13, h14]
    rfl

end Cert.Proof.TailClaim

end
-- ==== Proof.AttPay.lean ====
/- The attention kernel's vector terms, read at an index. -/
module

public import proofs.«01_k».proof.Proof.Gen.KernelIdeal.Value
public import Idealize.ShloMosaic.PureOps.Ideal
public import Idealize.ShloMosaic.Lib.Pointwise

@[expose] public section

set_option maxRecDepth 16384

noncomputable section

namespace Cert.KernelIdeal.AttValue

open Cert.KernelIdeal Cert.KernelIdeal.Gen
open Idealize.ShloMosaic Idealize.ShloMosaic.TcCoe Idealize.SL.Sem

/-- The scores of one head: the queries' other lanes are set to zero. -/
def headScore (n : BitVec 32) (q k0 k1 k2 : Vec Ideal S1x256x256 .bf16) : FVec Ideal S256x768 .f32 :=
  matmul dot_S256x256_S768x256_S256x768_1_1_0_0_n_n none
    (select (cmpi .eq k0_pay3 (broadcast S256x256 n)) (k0_pay12 q) (broadcast S256x256 (Scalar.ofBits .bf16 0x0000#16 : Ideal .bf16)))
    (k0_pay13 k0 k1 k2) (constant S256x768 .f32 0x00000000#32)

/-- The scores that may be seen. -/
def seen (p : IVec S256x768 1) (S : FVec Ideal S256x768 .f32) : FVec Ideal S256x768 .f32 :=
  select p S (broadcast S256x768 (Named.named κ "mask" 0xF149F2CA#32 : Ideal .f32))

/-- The greatest score of every row. -/
def rowMax (S : FVec Ideal S256x768 .f32) : FVec Ideal S256 .f32 :=
  multiReduction .maximumf [1] S256 S 0xFF800000#32 reduces_S256x768_S256 (.inl rfl) rfl

/-- A row's weights before they are divided by their sum. -/
def expd (S : FVec Ideal S256x768 .f32) (M : FVec Ideal S256 .f32) : FVec Ideal S256x768 .f32 :=
  exp2 (subf S (broadcastTo S256x768 (shapeCast S256x1 M shapeCasts_S256_S256x1) broadcasts_S256x1_S256x768))

/-- The weights applied to the values. -/
def applied (E : FVec Ideal S256x768 .f32) (V : FVec Ideal S768x256 .bf16) : FVec Ideal S256x256 .f32 :=
  divf (matmul dot_S256x768_S768x256_S256x256_1_0_0_1_n_n none (truncf .bf16 E bitsLt_bf16_f32) V (constant S256x256 .f32 0x00000000#32))
    (broadcastTo S256x256 (shapeCast S256x1 (multiReduction .add [1] S256 E 0x00000000#32 reduces_S256x768_S256 (.inl rfl) rfl)
      shapeCasts_S256_S256x1) broadcasts_S256x1_S256x256)

/-- One head's result, of every lane. -/
def headOut (S : FVec Ideal S256x768 .f32) (V : FVec Ideal S768x256 .bf16) : FVec Ideal S256x256 .f32 :=
  applied (expd S (rowMax S)) V

/-- A head's lanes of its result. -/
def lanes (n : BitVec 32) (H : FVec Ideal S256x256 .f32) : FVec Ideal S256x256 .f32 :=
  select (cmpi .eq k0_pay3 (broadcast S256x256 n)) H (broadcast S256x256 (Scalar.ofBits .f32 0x00000000#32 : Ideal .f32))

/-- The heads' results side by side. -/
def joined (H0 H1 H2 H3 : FVec Ideal S256x256 .f32) : FVec Ideal S1x256x256 .bf16 :=
  shapeCast S1x256x256 (truncf .bf16 (addf (addf (addf (addf (broadcast S256x256 (Scalar.ofBits .f32 0x00000000#32 : Ideal .f32)) (lanes 0#32 H0))
    (lanes 1#32 H1)) (lanes 2#32 H2)) (lanes 3#32 H3)) bitsLt_bf16_f32) shapeCasts_S256x256_S1x256x256

/-- A head's slab of the biases. -/
def slab (B : Vec Ideal S4x256x768 .f32) (h : Fin 4) : Vec Ideal S1x256x768 .f32 := fun j => B (ix3 h (j 1) (j 2))

/-- A head's row of the table laid out over all distances. -/
def tabRow (G : Vec Ideal S4x1x1024 .f32) (h : Fin 4) : Vec Ideal S1x1x1024 .f32 := fun j => G (ix3 h 0 (j 2))

/-- A head's scores with its biases. -/
def biased (q k0 k1 k2 : Vec Ideal S1x256x256 .bf16) (B : Vec Ideal S4x256x768 .f32) (h : Fin 4) : FVec Ideal S256x768 .f32 :=
  addf (headScore (BitVec.ofNat 32 h.val) q k0 k1 k2) (shapeCast S256x768 (slab B h) shapeCasts_S1x256x768_S256x768)

/-- The heads' results side by side, of their scores. -/
def attended (S : Fin 4 → FVec Ideal S256x768 .f32) (v0 v1 v2 : Vec Ideal S1x256x256 .bf16) : FVec Ideal S1x256x256 .bf16 :=
  joined (headOut (S 0) (k0_pay14 v0 v1 v2)) (headOut (S 1) (k0_pay14 v0 v1 v2)) (headOut (S 2) (k0_pay14 v0 v1 v2)) (headOut (S 3) (k0_pay14 v0 v1 v2))

/-- The biases of every head. -/
def biases (G : Vec Ideal S4x1x1024 .f32) : Vec Ideal S4x256x768 .f32 := fun i =>
  k0_pay10 k0_pay6 k0_pay7 k0_pay8 (tabRow G (i 0)) (ix3 0 (i 1) (i 2))

/-- A lane's head. -/
theorem lane_head (r e : Fin 256) : k0_pay3 (ix2 r e) = BitVec.ofNat 32 (e.val / 64) := by
  unfold k0_pay3
  pointwise
  revert e
  decide +kernel

/-- Whether a lane belongs to a head. -/
theorem cmp_head : ∀ (e : Fin 256) (h : Fin 4), IntOp.cmpi .eq (BitVec.ofNat 32 (e.val / 64)) (BitVec.ofNat 32 h.val) = if e.val / 64 = h.val then 1#1 else 0#1 := by
  decide +kernel

/-- The named constants' values. -/
theorem scale_eq : (Named.named κ "scale" 0x3E38AA3B#32 : Ideal .f32) = (((Real.log 2)⁻¹ * 8⁻¹ : ℝ) : EReal) :=
  IdealRules.named_const.ideal_named_scalar _ _ _ _ rfl

/-- The constant `log2e` is `1 / log 2`. -/
theorem log2e_eq : (Named.named κ "log2e" 0x3FB8AA3B#32 : Ideal .f32) = (((Real.log 2)⁻¹ : ℝ) : EReal) :=
  IdealRules.named_const.ideal_named_scalar _ _ _ _ rfl

/-- The constant `mask` is minus infinity. -/
theorem mask_eq : (Named.named κ "mask" 0xF149F2CA#32 : Ideal .f32) = (⊥ : EReal) :=
  IdealRules.named_const.ideal_named_scalar _ _ _ _ rfl

/-- A query's lane, scaled. -/
theorem queries_at (q : Vec Ideal S1x256x256 .bf16) (r e : Fin 256) :
    k0_pay12 q (ix2 r e) = q (ix3 0 r e) * (((Real.log 2)⁻¹ * 8⁻¹ : ℝ) : EReal) := by
  unfold k0_pay12
  pointwise
  rw [scale_eq]

/-- A key of the three tiles one after the other. -/
def tiled (k0 k1 k2 : Vec Ideal S1x256x256 .bf16) (J : Fin 768) (e : Fin 256) : EReal :=
  if h : J.val < 256 then k0 (ix3 0 ⟨J.val, h⟩ e) else if h : J.val - 256 < 256 then k1 (ix3 0 ⟨J.val - 256, h⟩ e)
  else k2 (ix3 0 ⟨J.val - 256 - 256, by omega⟩ e)

/-- The three key tiles, one after another. -/
theorem keys_at (k0 k1 k2 : Vec Ideal S1x256x256 .bf16) (J : Fin 768) (e : Fin 256) : k0_pay13 k0 k1 k2 (ix2 J e) = tiled k0 k1 k2 J e := by
  unfold k0_pay13
  pointwise
  rfl

/-- A score of one head, a sum over every lane with the other heads' lanes zero. -/
theorem headScore_at (h : Fin 4) (q k0 k1 k2 : Vec Ideal S1x256x256 .bf16) (r : Fin 256) (J : Fin 768) :
    headScore (BitVec.ofNat 32 h.val) q k0 k1 k2 (ix2 r J)
      = ∑ e : Fin 256, if e.val / 64 = h.val then q (ix3 0 r e) * (((Real.log 2)⁻¹ * 8⁻¹ : ℝ) : EReal) * tiled k0 k1 k2 J e else 0 := by
  unfold headScore
  pointwise [lane_head, queries_at, keys_at]
  refine Finset.sum_congr rfl fun e _ => ?_
  rw [cmp_head]
  by_cases he : e.val / 64 = h.val
  · rw [if_pos he, if_pos he]; rfl
  · rw [if_neg he, if_neg he]; rfl

/-- The greatest score of a row. -/
theorem max_at (S : FVec Ideal S256x768 .f32) (hr : S256x768.Reduces [1] S256) (r : Fin 256) :
    multiReduction .maximumf [1] S256 S 0xFF800000#32 hr (.inl rfl) rfl (ix1 r) = Finset.univ.fold max (Ideal.ofBits .f32 0xFF800000#32) fun J : Fin 768 => S (ix2 r J) := by
  pointwise

/-- The initial value of the row maxima. -/
theorem ninf_eq : Ideal.ofBits .f32 0xFF800000#32 = ⊥ := by
  simp [Ideal.ofBits, Ideal.ieee]

/-- A fold by `max` from minus infinity is the supremum. -/
theorem fold_sup (f : Fin 768 → EReal) (c : EReal) (hc : c = ⊥) : Finset.univ.fold max c f = Finset.univ.sup f := by
  subst hc
  rfl

/-- The greatest score of a row. -/
theorem rowMax_at (S : FVec Ideal S256x768 .f32) (r : Fin 256) : rowMax S (ix1 r) = Finset.univ.sup fun J : Fin 768 => S (ix2 r J) :=
  (max_at S _ r).trans (fold_sup _ _ ninf_eq)

/-- A weight before the division. -/
theorem expd_at (S : FVec Ideal S256x768 .f32) (M : FVec Ideal S256 .f32) (r : Fin 256) (J : Fin 768) :
    expd S M (ix2 r J) = Ideal.exp2 (S (ix2 r J) - M (ix1 r)) := by
  unfold expd
  pointwise
  rfl

/-- The row's powers applied to a column of values. -/
theorem applied_at (E : FVec Ideal S256x768 .f32) (V : FVec Ideal S768x256 .bf16) (r e : Fin 256) :
    applied E V (ix2 r e) = Ideal.div (∑ J : Fin 768, E (ix2 r J) * V (ix2 J e)) (∑ J : Fin 768, E (ix2 r J)) := by
  unfold applied
  pointwise

/-- The weights of a row of scores, by powers of two, applied to a column of values and then divided by their sum. -/
def attend2 (s v : Fin 768 → EReal) : EReal :=
  Ideal.div (∑ J, Ideal.exp2 (s J - Finset.univ.sup s) * v J) (∑ J, Ideal.exp2 (s J - Finset.univ.sup s))

/-- One head's result at a row and a lane. -/
theorem headOut_at (S : FVec Ideal S256x768 .f32) (V : FVec Ideal S768x256 .bf16) (r e : Fin 256) :
    headOut S V (ix2 r e) = attend2 (fun J => S (ix2 r J)) fun J => V (ix2 J e) := by
  unfold headOut attend2
  rw [applied_at]
  simp only [expd_at, rowMax_at]

/-- Of the joined result a lane is its own head's. -/
theorem joined_at (H : Fin 4 → FVec Ideal S256x256 .f32) (r : Fin 256) (h : Fin 4) (e : Fin 256) (he : e.val / 64 = h.val) :
    joined (H 0) (H 1) (H 2) (H 3) (ix3 0 r e) = H h (ix2 r e) := by
  unfold joined lanes
  pointwise [lane_head]
  have hc : ∀ k : Fin 4, IntOp.cmpi .eq (BitVec.ofNat 32 (e.val / 64)) (BitVec.ofNat 32 k.val) = if h = k then 1#1 else 0#1 := fun k => by
    rw [cmp_head, he]
    exact if_congr Fin.ext_iff.symm rfl rfl
  have h0 := hc 0
  have h1 := hc 1
  have h2 := hc 2
  have h3 := hc 3
  rw [show BitVec.ofNat 32 (0 : Fin 4).val = 0#32 from rfl] at h0
  rw [show BitVec.ofNat 32 (1 : Fin 4).val = 1#32 from rfl] at h1
  rw [show BitVec.ofNat 32 (2 : Fin 4).val = 2#32 from rfl] at h2
  rw [show BitVec.ofNat 32 (3 : Fin 4).val = 3#32 from rfl] at h3
  rw [h0, h1, h2, h3]
  fin_cases h <;> simp [Scalar.select]

/-! ## The biases -/

/-- Whether a key's chunk is the query's own or one of the eight before it. -/
theorem band_at (r : Fin 256) (J : Fin 768) : k0_pay9 k0_pay6 k0_pay7 k0_pay8 (ix2 r J) = if r.val / 64 ≤ J.val / 64 ∧ J.val / 64 ≤ r.val / 64 + 8 then 1#1 else 0#1 := by
  have h6 : k0_pay6 (ix2 r J) = BitVec.ofNat 32 (J.val / 64) := by
    unfold k0_pay6
    pointwise
    revert J
    decide +kernel
  have h7 : Scalar.select (k0_pay8 (ix2 r J)) (IntOp.subi (k0_pay7 (ix2 r J)) 1#32) (k0_pay7 (ix2 r J)) = BitVec.ofNat 32 (r.val / 64) := by
    unfold k0_pay7 k0_pay8
    pointwise
    clear h6
    revert r
    decide +kernel
  have hb : ∀ (a : Fin 4) (b : Fin 12), IntOp.andi (IntOp.cmpi .sge (IntOp.subi (BitVec.ofNat 32 b.val) (BitVec.ofNat 32 a.val)) 0#32)
      (IntOp.cmpi .sle (IntOp.subi (BitVec.ofNat 32 b.val) (BitVec.ofNat 32 a.val)) 8#32) = if a.val ≤ b.val ∧ b.val ≤ a.val + 8 then 1#1 else 0#1 := by
    decide +kernel
  unfold k0_pay9
  pointwise
  rw [h6, h7]
  exact hb ⟨r.val / 64, by omega⟩ ⟨J.val / 64, by omega⟩

/-- A head's biases, from its row of the table laid out over all distances. -/
theorem bias_at (G : Vec Ideal S1x1x1024 .f32) (r : Fin 256) (J : Fin 768) :
    k0_pay10 k0_pay6 k0_pay7 k0_pay8 G (ix3 0 r J)
      = if r.val / 64 ≤ J.val / 64 ∧ J.val / 64 ≤ r.val / 64 + 8 then G (ix3 0 0 ⟨J.val + 255 - r.val, by omega⟩) * (((Real.log 2)⁻¹ : ℝ) : EReal) else ⊥ := by
  unfold k0_pay10
  pointwise [band_at]
  rw [log2e_eq, mask_eq]
  have hp : ∀ p, (⟨(J.val + 1024 - (769 + r.val) % 1024) % 1024, p⟩ : Fin 1024) = ⟨J.val + 255 - r.val, by omega⟩ := fun p => Fin.ext (by dsimp only; omega)
  rw [hp]
  by_cases h : r.val / 64 ≤ J.val / 64 ∧ J.val / 64 ≤ r.val / 64 + 8
  · rw [if_pos h, if_pos h]; rfl
  · rw [if_neg h, if_neg h]; rfl

/-- The second head's biases are written by the same term as the first's. -/
theorem bias1_eq (G : Vec Ideal S1x1x1024 .f32) : k0_pay1 (k0_pay9 k0_pay6 k0_pay7 k0_pay8) G = k0_pay10 k0_pay6 k0_pay7 k0_pay8 G := rfl

/-- The third head's likewise. -/
theorem bias2_eq (G : Vec Ideal S1x1x1024 .f32) : k0_pay2 (k0_pay9 k0_pay6 k0_pay7 k0_pay8) G = k0_pay10 k0_pay6 k0_pay7 k0_pay8 G := rfl

/-- The fourth head's likewise. -/
theorem bias11_eq (G : Vec Ideal S1x1x1024 .f32) : k0_pay11 k0_pay6 k0_pay7 k0_pay8 G = k0_pay10 k0_pay6 k0_pay7 k0_pay8 G := rfl

end Cert.KernelIdeal.AttValue

end
-- ==== Proof.AttRun.lean ====
/- The attention kernel's body at one grid point: what it leaves in its output's buffer and in the scratch of biases. -/
module

public import proofs.«01_k».proof.Proof.AttPay
public import Idealize.ShloMosaic.Lib.Pipeline.ReadBack
public import Idealize.ShloMosaic.Lib.Pointwise

@[expose] public section

set_option maxRecDepth 16384

noncomputable section

namespace Cert.KernelIdeal.AttValue

open Cert.KernelIdeal Cert.KernelIdeal.Gen
open Idealize.ShloMosaic Idealize.ShloMosaic.TcCoe Idealize.ShloMosaic.Tactic Idealize.SL.Sem

/-- A load of a box from a buffer that holds its block. -/
theorem loadB {s : Shape} {e : EltTy} (arg : Memref sig .tc .vmem s e) (harg : arg.IsWhole) (B : LoadRect s) (X : Vec Ideal s e) :
    View.readAt (Elt Ideal) arg.view B (harg.unread X) = fun j => X (B.idx j) := by
  funext j
  rw [View.readAt_apply, harg.read_unread]

/-- A load of a box from a scratch whose stores are blocks of `G` and cover it. -/
theorem backB {s : Shape} {e : EltTy} (arg : Memref sig .tc .vmem s e) (L : List (View.Piece (Elt Ideal) s e)) (G : Vec Ideal s e)
    (hL : View.PiecesOf G L) (hc : ∀ y, ∃ q ∈ L, y ∈ q.1.set) (B : LoadRect s) : arg.view.readCov L B = fun j => G (B.idx j) := by
  rw [View.readCov_eq_canon', show View.canon L = G from funext fun y => View.canon_apply_of_pieces G L hL.mem y (hc y)]

/-- A box that is a whole block, a slab of the biases, and a row of the table. -/
theorem fullB (inb : ∀ a : Fin 3, (![0, 0, 0] : Fin 3 → ℕ) a + S1x256x256.size a ≤ S1x256x256.size a) (X : Vec Ideal S1x256x256 .bf16) :
    (fun j => X ((Rect.unit (s := S1x256x256) ![0, 0, 0] S1x256x256.size inb).toLoadRect.idx j)) = X := by
  funext j
  refine congrArg X ?_
  funext a; apply Fin.ext
  fin_cases a
  · show 0 + 1 * (j 0).val = (j 0).val; omega
  · show 0 + 1 * (j 1).val = (j 1).val; omega
  · show 0 + 1 * (j 2).val = (j 2).val; omega

/-- A load of one head's slab of biases. -/
theorem slabB (o : ℕ) (ho : o < 4) (inb : ∀ a : Fin 3, (![o, 0, 0] : Fin 3 → ℕ) a + S1x256x768.size a ≤ S4x256x768.size a) (X : Vec Ideal S4x256x768 .f32) :
    (fun j => X ((Rect.unit (s := S4x256x768) ![o, 0, 0] S1x256x768.size inb).toLoadRect.idx j)) = slab X ⟨o, ho⟩ := by
  funext j
  refine congrArg X ?_
  funext a; apply Fin.ext
  fin_cases a
  · have : (j 0).val < 1 := (j 0).isLt
    show o + 1 * (j 0).val = o; omega
  · show 0 + 1 * (j 1).val = (j 1).val; omega
  · show 0 + 1 * (j 2).val = (j 2).val; omega

/-- A load of one head's row of the table. -/
theorem rowB (o : ℕ) (ho : o < 4) (inb : ∀ a : Fin 3, (![o, 0, 0] : Fin 3 → ℕ) a + S1x1x1024.size a ≤ S4x1x1024.size a) (X : Vec Ideal S4x1x1024 .f32) :
    (fun j => X ((Rect.unit (s := S4x1x1024) ![o, 0, 0] S1x1x1024.size inb).toLoadRect.idx j)) = tabRow X ⟨o, ho⟩ := by
  funext j
  refine congrArg X ?_
  funext a; apply Fin.ext
  fin_cases a
  · have : (j 0).val < 1 := (j 0).isLt
    show o + 1 * (j 0).val = o; omega
  · have : (j 1).val < 1 := (j 1).isLt
    show 0 + 1 * (j 1).val = 0; omega
  · show 0 + 1 * (j 2).val = (j 2).val; omega

/-- The named terms of the two bodies, as the heads' results side by side. -/
theorem pay_C (x0 x1 x2 x3 x4 x5 x6 : Vec Ideal S1x256x256 .bf16) (B : Vec Ideal S4x256x768 .f32) :
    k0_pay5 (k0_pay37 k0_pay3 (k0_pay27 x4 x5 x6) (k0_pay31 k0_pay3 (k0_pay25 x0) (k0_pay26 x1 x2 x3) k0_pay30)
      (k0_pay33 k0_pay3 (k0_pay27 x4 x5 x6) (k0_pay28 k0_pay3 x0 x1 x2 x3) (slab B 0))
      (k0_pay35 (k0_pay29 k0_pay3 x0 x1 x2 x3) (slab B 1)) (k0_pay36 (k0_pay29 k0_pay3 x0 x1 x2 x3) (slab B 1))
      (constant S256x256 .f32 0#32) (slab B 2)) (k0_pay38 k0_pay3)
      (k0_pay39 (k0_pay27 x4 x5 x6) (k0_pay32 k0_pay3 (k0_pay25 x0) (k0_pay26 x1 x2 x3)) (slab B 3))
    = attended (biased x0 x1 x2 x3 B) x4 x5 x6 := rfl

/-- The same where the window may start before the sequence. -/
theorem pay_B (a : BitVec 32) (x0 x1 x2 x3 x4 x5 x6 : Vec Ideal S1x256x256 .bf16) (B : Vec Ideal S4x256x768 .f32) :
    k0_pay4 (k0_pay14 x4 x5 x6) (k0_pay20 a) (k0_pay23 k0_pay3 (k0_pay14 x4 x5 x6) (k0_pay18 k0_pay3 (k0_pay12 x0) (k0_pay13 x1 x2 x3) k0_pay17)
      (k0_pay20 a) (k0_pay21 a k0_pay3 (k0_pay14 x4 x5 x6) (k0_pay15 k0_pay3 x0 x1 x2 x3) (slab B 0))
      (k0_pay22 (k0_pay16 k0_pay3 x0 x1 x2 x3) (slab B 1)) (Named.named κ "mask" 0xF149F2CA#32) (slab B 2))
      (k0_pay24 (k0_pay19 k0_pay3 (k0_pay12 x0) (k0_pay13 x1 x2 x3)) (slab B 3)) (Named.named κ "mask" 0xF149F2CA#32)
    = attended (fun h => seen (k0_pay20 a) (biased x0 x1 x2 x3 B h)) x4 x5 x6 := rfl

/-- One store over the whole block leaves what it stores. -/
theorem one_piece (inb : ∀ a : Fin 3, (![0, 0, 0] : Fin 3 → ℕ) a + S1x256x256.size a ≤ S1x256x256.size a) (X : Vec Ideal S1x256x256 .bf16) :
    View.PiecesOf X [⟨Rect.unit ![0, 0, 0] S1x256x256.size inb, X⟩] :=
  ⟨fun j => (congrFun (fullB inb X) j).symm, trivial⟩

/-- One head's biases, stored at the head's slab. -/
theorem bias_piece (o : ℕ) (ho : o < 4) (inb : ∀ a : Fin 3, (![o, 0, 0] : Fin 3 → ℕ) a + S1x256x768.size a ≤ S4x256x768.size a) (G : Vec Ideal S4x1x1024 .f32) (j : S1x256x768.Idx) :
    k0_pay10 k0_pay6 k0_pay7 k0_pay8 (tabRow G ⟨o, ho⟩) j = biases G ((Rect.unit (s := S4x256x768) ![o, 0, 0] S1x256x768.size inb).emb j) := by
  have h0 : (j 0).val < 1 := (j 0).isLt
  unfold biases
  have e0 : ((Rect.unit (s := S4x256x768) ![o, 0, 0] S1x256x768.size inb).emb j) 0 = (⟨o, ho⟩ : Fin 4) :=
    Fin.ext (show o + 1 * (j 0).val = o by omega)
  rw [e0]
  refine congrArg _ ?_
  funext a; apply Fin.ext
  fin_cases a
  · show (j 0).val = 0; omega
  · show (j 1).val = 0 + 1 * (j 1).val; omega
  · show (j 2).val = 0 + 1 * (j 2).val; omega

section Run
variable (c : Dev nD) (i : grid0.Coords) (arg2 : Memref sig .tc .vmem S1x256x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S4x1x1024 .f32) (harg9 : arg9.IsWhole) (arg10 : Memref sig .tc .vmem S1x256x256 .bf16) (harg10 : arg10.IsWhole) (arg11 : Memref sig .tc .vmem S4x256x768 .f32) (harg11 : arg11.IsWhole)
  (x0 x1 x2 x3 x4 x5 x6 : Vec Ideal S1x256x256 .bf16) (x7 : Vec Ideal S4x1x1024 .f32) (xs0 : Vec Ideal S4x256x768 .f32)

/-- Which keys lie in the sequence, at a grid point. -/
def inSeq : IVec S256x768 1 := k0_pay20 (BitVec.ofNat 32 (i 1).val)

/-- At a point past the sequence's first two tiles. -/
theorem out_C (hc0 : ¬cond0_0 i) (hc1 : ¬cond0_1 i) (hc2 : cond0_2 i) : out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xs0 = attended (biased x0 x1 x2 x3 xs0) x4 x5 x6 := by
  unfold out0_C_8
  rw [View.read_writes_junk_eq_canon]
  refine funext fun y => View.canon_apply_of_pieces (attended (biased x0 x1 x2 x3 xs0) x4 x5 x6) _ (View.PiecesOf.mem ?_) y (cover0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xs0 y)
  unfold kernelRun0_C
  simp only [kernelRun0_C.sl.r_11, kernelRun0_C.sl.r_10, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.cst_54, loadB]
  simp (disch := decide) only [fullB, slabB]
  exact pay_C x0 x1 x2 x3 x4 x5 x6 xs0 ▸ one_piece _ _

/-- At one of the sequence's first two tiles. -/
theorem out_B (hc0 : ¬cond0_0 i) (hc1 : cond0_1 i) (hc2 : ¬cond0_2 i) : out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xs0 = attended (fun h => seen (inSeq i) (biased x0 x1 x2 x3 xs0 h)) x4 x5 x6 := by
  unfold out0_B_8
  rw [View.read_writes_junk_eq_canon]
  refine funext fun y => View.canon_apply_of_pieces (attended (fun h => seen (inSeq i) (biased x0 x1 x2 x3 xs0 h)) x4 x5 x6) _ (View.PiecesOf.mem ?_) y (cover0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xs0 y)
  unfold kernelRun0_B
  simp only [kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.cst_55, loadB]
  simp (disch := decide) only [fullB, slabB]
  exact pay_B (BitVec.ofNat 32 (i 1).val) x0 x1 x2 x3 x4 x5 x6 xs0 ▸ one_piece _ _

/-- The first point's stores into the scratch are the heads' biases. -/
theorem bias_pieces : View.PiecesOf (biases x7) (kernelRun0_A.sl.HS0_4 c arg9 harg9 x7) := by
  unfold kernelRun0_A.sl.HS0_4
  simp only [loadB]
  simp (disch := decide) only [rowB]
  refine ⟨fun j => ?_, fun j => ?_, fun j => ?_, fun j => ?_, trivial⟩
  · exact (congrFun (bias2_eq _) j).trans (bias_piece 3 (by decide) inb_S4x256x768_S1x256x768_3_0_0 x7 j)
  · exact (congrFun (bias1_eq _) j).trans (bias_piece 2 (by decide) inb_S4x256x768_S1x256x768_2_0_0 x7 j)
  · exact (congrFun (bias11_eq _) j).trans (bias_piece 1 (by decide) inb_S4x256x768_S1x256x768_1_0_0 x7 j)
  · exact bias_piece 0 (by decide) inb_S4x256x768_S1x256x768_0_0_0 x7 j

/-- The four slabs cover the scratch. -/
theorem bias_cover (y : S4x256x768.Idx) : ∃ q ∈ kernelRun0_A.sl.HS0_4 (F := Ideal) c arg9 harg9 x7, y ∈ q.1.set :=
  View.cover_of_tiledL (kernelRun0_A.sl.HS0_4 (F := Ideal) c arg9 harg9 x7) S1x256x768.size (by sl_kernel_rfl) y

/-- What the first point leaves in the scratch. -/
theorem sout_A (hc0 : cond0_0 i) (hc1 : cond0_1 i) (hc2 : ¬cond0_2 i) : sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7 = biases x7 := by
  unfold sout0_A_0
  rw [View.read_writes_junk_eq_canon]
  exact funext fun y => View.canon_apply_of_pieces (biases x7) _ (bias_pieces c arg9 harg9 x7).mem y (scover0_A_0 c i arg2 harg2 arg3 harg3 arg4 harg4 arg5 harg5 arg6 harg6 arg7 harg7 arg8 harg8 arg9 harg9 arg10 harg10 arg11 harg11 hc0 hc1 hc2 x0 x1 x2 x3 x4 x5 x6 x7 y)

/-- At the first point. -/
theorem out_A (hc0 : cond0_0 i) (hc1 : cond0_1 i) (hc2 : ¬cond0_2 i) : out0_A_8 c i arg2 harg2 arg3 harg3 arg4 harg4 arg5 harg5 arg6 harg6 arg7 harg7 arg8 harg8 arg9 harg9 arg10 harg10 arg11 harg11 hc0 hc1 hc2 x0 x1 x2 x3 x4 x5 x6 x7 = attended (fun h => seen (inSeq i) (biased x0 x1 x2 x3 (biases x7) h)) x4 x5 x6 := by
  unfold out0_A_8
  rw [View.read_writes_junk_eq_canon]
  refine funext fun y => View.canon_apply_of_pieces (attended (fun h => seen (inSeq i) (biased x0 x1 x2 x3 (biases x7) h)) x4 x5 x6) _ (View.PiecesOf.mem ?_) y (cover0_A_8 c i arg2 harg2 arg3 harg3 arg4 harg4 arg5 harg5 arg6 harg6 arg7 harg7 arg8 harg8 arg9 harg9 arg10 harg10 arg11 harg11 hc0 hc1 hc2 x0 x1 x2 x3 x4 x5 x6 x7 y)
  unfold kernelRun0_A
  simp only [kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_55,
    kernelRun0_A.sl.v147, kernelRun0_A.sl.v126, kernelRun0_A.sl.v105, kernelRun0_A.sl.v84, loadB, backB arg11 _ _ (bias_pieces c arg9 harg9 x7) (bias_cover c arg9 harg9 x7)]
  simp (disch := decide) only [fullB, slabB]
  exact pay_B (BitVec.ofNat 32 (i 1).val) x0 x1 x2 x3 x4 x5 x6 (biases x7) ▸ one_piece _ _

end Run

end Cert.KernelIdeal.AttValue

end
-- ==== Proof.AttSpec.lean ====
/- Chunked attention with a clipped relative bias, of arrays of extended reals: one query row of one head. -/
module

public import Idealize.ShloMosaic.PureOps.Ideal
public import Idealize.ShloMosaic.Lib.Pointwise

@[expose] public section

noncomputable section

namespace Cert.AttSpec

open Idealize.ShloMosaic

/-- Arrays by batch entry, token and lane, and the table of biases by head and relative position. -/
abbrev Arr := (⟨3, ![4, 4096, 256]⟩ : Shape).Idx → EReal
abbrev Tab := (⟨2, ![4, 257]⟩ : Shape).Idx → EReal

/-- Lane `d` of head `h`, token `i` of chunk `n`, and the place of window column `w` seen from query `i` in the table. -/
def lane (h : Fin 4) (d : Fin 64) : Fin 256 := ⟨h.val * 64 + d.val, by omega⟩
def token (n i : Fin 64) : Fin 4096 := ⟨n.val * 64 + i.val, by omega⟩
def place (i : Fin 64) (w : Fin 576) : Fin 257 := ⟨min (w.val - 384 - i.val) 256, by omega⟩

variable (Q K X : Arr) (R : Tab)

/-- What column `w` of chunk `n`'s window holds: 512 tokens back, zero before the sequence. -/
def back (b : Fin 4) (n : Fin 64) (w : Fin 576) (e : Fin 256) : EReal :=
  if h : 512 ≤ n.val * 64 + w.val then X (ix3 b ⟨n.val * 64 + w.val - 512, by omega⟩ e) else 0

/-- The score of query `i` of chunk `n` against window column `w`. -/
def score (b h : Fin 4) (n i : Fin 64) (w : Fin 576) : EReal :=
  if 512 ≤ n.val * 64 + w.val then
    (∑ d, Q (ix3 b (token n i) (lane h d)) * back K b n w (lane h d)) * ((1 / 8 : ℝ) : EReal) + R (ix2 h (place i w))
  else ⊥

/-- The weights of a row of scores applied to a column of values. -/
def attend {N : ℕ} (s v : Fin N → EReal) : EReal :=
  ∑ w, v w * Ideal.div (Ideal.exp (s w - Finset.univ.sup s)) (∑ x, Ideal.exp (s x - Finset.univ.sup s))

/-- The attention's result at batch entry `b`, chunk `n`, query `i`, head `h` and lane `d`. -/
def att (b : Fin 4) (n i : Fin 64) (h : Fin 4) (d : Fin 64) : EReal :=
  attend (score Q K R b h n i) fun w => back X b n w (lane h d)

end Cert.AttSpec

end
-- ==== Proof.AttMath.lean ====
/- The kernel's softmax in powers of two over its 768 columns is the reference's in powers of e over the 576 columns of its window. -/
module

public import proofs.«01_k».proof.Proof.AttPay
public import proofs.«01_k».proof.Proof.AttSpec

@[expose] public section

set_option maxRecDepth 16384

noncomputable section

namespace Cert.KernelIdeal.AttValue

open Cert.KernelIdeal Cert.KernelIdeal.Gen Cert.AttSpec
open Idealize.ShloMosaic

/-- A nonnegative real scales a sum of extended reals term by term. -/
theorem sum_scale {N : ℕ} (r : ℝ) (hr : 0 ≤ r) (f : Fin N → EReal) : (∑ w, f w) * (r : EReal) = ∑ w, f w * (r : EReal) := by
  have h : ∀ x y : EReal, (x + y) * (r : EReal) = x * (r : EReal) + y * (r : EReal) := fun x y => by
    rw [mul_comm, EReal.left_distrib_of_nonneg_of_ne_top (EReal.coe_nonneg.mpr hr) (EReal.coe_ne_top r), mul_comm, mul_comm (r : EReal) y]
  exact map_sum (⟨⟨fun x => x * (r : EReal), zero_mul _⟩, h⟩ : EReal →+ EReal) f Finset.univ

/-- Real sums, read at the extended reals. -/
theorem sum_coe {N : ℕ} (f : Fin N → ℝ) : ∑ w, (f w : EReal) = ((∑ w, f w : ℝ) : EReal) :=
  (map_sum (⟨⟨Real.toEReal, EReal.coe_zero⟩, EReal.coe_add⟩ : ℝ →+ EReal) f Finset.univ).symm

/-- A power of two of a scaled real is the power of e of the real. -/
theorem exp2_scaled (x : ℝ) : Ideal.exp2 ((x * (Real.log 2)⁻¹ : ℝ) : EReal) = Ideal.exp (x : EReal) := by
  rw [Ideal.exp2_coe, Ideal.exp_coe]
  refine congrArg _ ?_
  show (2 : ℝ) ^ (x * (Real.log 2)⁻¹) = Real.exp x
  rw [Real.rpow_def_of_pos two_pos]
  refine congrArg _ ?_
  have : Real.log 2 ≠ 0 := (Real.log_pos one_lt_two).ne'
  field_simp

/-- Scores that are real or masked, at least one of them real: scaled by `1 / log 2` and laid among masked columns they weigh the same
values by the same weights. -/
theorem attend_eq (s v : Fin 576 → EReal) (S V : Fin 768 → EReal) (o : ℕ) (ho : o + 576 ≤ 768)
    (hs : ∀ w, s w = ⊥ ∨ ∃ r : ℝ, s w = (r : EReal)) (h0 : ∃ (w : Fin 576) (r : ℝ), s w = (r : EReal))
    (hS : ∀ w : Fin 576, S ⟨o + w.val, by omega⟩ = s w * (((Real.log 2)⁻¹ : ℝ) : EReal))
    (hout : ∀ J : Fin 768, ¬(o ≤ J.val ∧ J.val < o + 576) → S J = ⊥)
    (hV : ∀ w : Fin 576, s w = ⊥ ∨ V ⟨o + w.val, by omega⟩ = v w) : attend2 S V = attend s v := by
  have hc : 0 < (Real.log 2)⁻¹ := inv_pos.mpr (Real.log_pos one_lt_two)
  generalize hcc : (Real.log 2)⁻¹ = k at hS hc
  obtain ⟨w0, r0, hr0⟩ := h0
  obtain ⟨w1, -, hw1⟩ := Finset.exists_mem_eq_sup Finset.univ ⟨w0, Finset.mem_univ _⟩ s
  have hge : (r0 : EReal) ≤ s w1 := hr0 ▸ hw1 ▸ Finset.le_sup (f := s) (Finset.mem_univ w0)
  obtain ⟨μ, hμ⟩ : ∃ μ : ℝ, s w1 = (μ : EReal) := by
    rcases hs w1 with h | h
    · rw [h] at hge; exact absurd (le_bot_iff.mp hge) (EReal.coe_ne_bot r0)
    · exact h
  rw [hμ] at hw1
  have hle : ∀ w, s w ≤ (μ : EReal) := fun w => hw1 ▸ Finset.le_sup (f := s) (Finset.mem_univ w)
  have hbot : (⊥ : EReal) * (k : EReal) = ⊥ := EReal.bot_mul_coe_of_pos hc
  have hin : ∀ J : Fin 768, o ≤ J.val ∧ J.val < o + 576 → ∃ w : Fin 576, J = ⟨o + w.val, by omega⟩ := fun J h =>
    ⟨⟨J.val - o, by omega⟩, Fin.ext (show J.val = o + (J.val - o) by omega)⟩
  have hsup : Finset.univ.sup S = ((μ * k : ℝ) : EReal) := by
    refine le_antisymm (Finset.sup_le fun J _ => ?_) ?_
    · by_cases h : o ≤ J.val ∧ J.val < o + 576
      · obtain ⟨w, rfl⟩ := hin J h
        rw [hS]
        rcases hs w with h | ⟨r, h⟩
        · rw [h, hbot]; exact bot_le
        · have := hle w
          rw [h] at this ⊢
          rw [← EReal.coe_mul]
          exact EReal.coe_le_coe_iff.mpr (mul_le_mul_of_nonneg_right (EReal.coe_le_coe_iff.mp this) hc.le)
      · rw [hout J h]; exact bot_le
    · have := Finset.le_sup (f := S) (Finset.mem_univ ⟨o + w1.val, by omega⟩)
      rwa [hS, hμ, ← EReal.coe_mul] at this
  have hbs : ∀ x : ℝ, (⊥ : EReal) - (x : EReal) = ⊥ := fun x => by rw [sub_eq_add_neg]; exact EReal.bot_add _
  have hP : ∀ w : Fin 576, Ideal.exp2 (S ⟨o + w.val, by omega⟩ - ((μ * k : ℝ) : EReal)) = Ideal.exp (s w - (μ : EReal)) := fun w => by
    rw [hS]
    rcases hs w with h | ⟨r, h⟩
    · rw [h, hbot, hbs, hbs]; rfl
    · rw [h, ← EReal.coe_mul, ← EReal.coe_sub, ← EReal.coe_sub, ← sub_mul, ← hcc, exp2_scaled]
  have hP0 : ∀ J : Fin 768, ¬(o ≤ J.val ∧ J.val < o + 576) → Ideal.exp2 (S J - ((μ * k : ℝ) : EReal)) = 0 := fun J h => by
    rw [hout J h, hbs]; rfl
  have hE : ∀ w, ∃ e : ℝ, Ideal.exp (s w - (μ : EReal)) = (e : EReal) ∧ 0 ≤ e ∧ (s w ≠ ⊥ → 0 < e) ∧ (s w = ⊥ → e = 0) := fun w => by
    rcases hs w with h | ⟨r, h⟩
    · exact ⟨0, by rw [h, hbs]; rfl, le_refl _, fun h' => absurd h h', fun _ => rfl⟩
    · exact ⟨Real.exp (r - μ), by rw [h, ← EReal.coe_sub]; rfl, (Real.exp_pos _).le, fun _ => Real.exp_pos _,
        fun h' => absurd (h ▸ h') (EReal.coe_ne_bot r)⟩
  choose e he hn hp hz using hE
  have hD : 0 < ∑ w, e w := Finset.sum_pos' (fun w _ => hn w) ⟨w1, Finset.mem_univ _, hp w1 (hμ ▸ EReal.coe_ne_bot μ)⟩
  have inj : Function.Injective fun w : Fin 576 => (⟨o + w.val, by omega⟩ : Fin 768) := fun a b h => Fin.ext (by
    have := congrArg Fin.val h
    simpa using this)
  have hnot : ∀ J : Fin 768, J ∉ Set.range (fun w : Fin 576 => (⟨o + w.val, by omega⟩ : Fin 768)) → ¬(o ≤ J.val ∧ J.val < o + 576) :=
    fun J h hJ => h (by obtain ⟨w, hw⟩ := hin J hJ; exact ⟨w, hw.symm⟩)
  unfold attend2 attend
  rw [hw1, hsup]
  rw [← Fintype.sum_of_injective _ inj (fun w => (e w : EReal) * v w)
      (fun J => Ideal.exp2 (S J - ((μ * k : ℝ) : EReal)) * V J) (fun J h => by rw [hP0 J (hnot J h), zero_mul]) (fun w => by
        rcases hV w with h | h
        · rw [hP, he, hz w h]; simp
        · rw [hP, he, h]),
    ← Fintype.sum_of_injective _ inj (fun w => (e w : EReal))
      (fun J => Ideal.exp2 (S J - ((μ * k : ℝ) : EReal))) (fun J h => hP0 J (hnot J h)) (fun w => by rw [hP, he])]
  simp only [he]
  rw [sum_coe, Ideal.div_coe hD.ne', sum_scale _ (one_div_pos.mpr hD).le]
  refine Finset.sum_congr rfl fun w _ => ?_
  rw [Ideal.div_coe hD.ne', mul_comm (e w : EReal) (v w), mul_assoc]

end Cert.KernelIdeal.AttValue

end
-- ==== Proof.AttRow.lean ====
/- One row of a tile: the kernel's result on its three key tiles is the reference's on the row's window. -/
module

public import proofs.«01_k».proof.Proof.AttMath
public import Idealize.ShloMosaic.Lib.Pointwise

@[expose] public section

set_option maxRecDepth 16384

noncomputable section

namespace Cert.KernelIdeal.AttValue

open Cert.KernelIdeal Cert.KernelIdeal.Gen Cert.AttSpec
open Idealize.ShloMosaic Idealize.ShloMosaic.TcCoe Idealize.ShloMosaic.Tactic

/-- The columns inside the sequence, at the first two tiles of a batch entry. -/
theorem before_at (j : ℕ) (hj : j < 2) (r : Fin 256) (J : Fin 768) :
    k0_pay20 (BitVec.ofNat 32 j) (ix2 r J) = if 512 ≤ j * 256 + J.val then 1#1 else 0#1 := by
  pointwise [k0_pay20]
  revert J
  interval_cases j <;> decide +kernel

/-- A head's biased score. -/
theorem biased_at (h : Fin 4) (q k0 k1 k2 : Vec Ideal S1x256x256 .bf16) (G : Vec Ideal S4x1x1024 .f32) (r : Fin 256) (J : Fin 768) :
    biased q k0 k1 k2 (biases G) h (ix2 r J)
      = (∑ e : Fin 256, if e.val / 64 = h.val then q (ix3 0 r e) * (((Real.log 2)⁻¹ * 8⁻¹ : ℝ) : EReal) * tiled k0 k1 k2 J e else 0)
        + if r.val / 64 ≤ J.val / 64 ∧ J.val / 64 ≤ r.val / 64 + 8 then G (ix3 h 0 ⟨J.val + 255 - r.val, by omega⟩) * (((Real.log 2)⁻¹ : ℝ) : EReal) else ⊥ := by
  unfold biased
  rw [← headScore_at, show (if r.val / 64 ≤ J.val / 64 ∧ J.val / 64 ≤ r.val / 64 + 8 then G (ix3 h 0 ⟨J.val + 255 - r.val, by omega⟩) * (((Real.log 2)⁻¹ : ℝ) : EReal) else ⊥)
    = k0_pay10 k0_pay6 k0_pay7 k0_pay8 (tabRow G h) (ix3 0 r J) from (bias_at (tabRow G h) r J).symm]
  generalize headScore (BitVec.ofNat 32 h.val) q k0 k1 k2 = H
  show _ = H (ix2 r J) + biases G (ix3 h r J)
  generalize biases G = B
  pointwise [slab]

/-- The tokens of a tile in chunks of 64, and the rows of a tile. -/
def chunk (j : Fin 16) (a : Fin 4) : Fin 64 := ⟨j.val * 4 + a.val, by omega⟩
def row (a : Fin 4) (i : Fin 64) : Fin 256 := ⟨a.val * 64 + i.val, by omega⟩

/-- A sum over a tile's lanes that keeps one head's is the sum over the head's. -/
theorem head_sum (h : Fin 4) (f : Fin 256 → EReal) : (∑ e : Fin 256, if e.val / 64 = h.val then f e else 0) = ∑ d, f (lane h d) := by
  refine (Fintype.sum_of_injective (lane h) (fun a b hab => Fin.ext (by have := congrArg Fin.val hab; unfold lane at this; simp at this; omega)) _ _ (fun e he => ?_) fun d => ?_).symm
  · refine if_neg fun hh => he ⟨⟨e.val % 64, by omega⟩, Fin.ext ?_⟩
    show h.val * 64 + e.val % 64 = e.val
    omega
  · refine (if_pos ?_).symm
    show (h.val * 64 + d.val) / 64 = h.val
    omega

/-- A tile of queries, three tiles of keys or values, and the table, as blocks of their arrays. -/
def QueriesOf (Q : Arr) (b : Fin 4) (j : Fin 16) (q : Vec Ideal S1x256x256 .bf16) : Prop :=
  ∀ r e : Fin 256, q (ix3 0 r e) = Q (ix3 b ⟨j.val * 256 + r.val, by omega⟩ e)
def TilesOf (K : Arr) (b : Fin 4) (j : Fin 16) (k0 k1 k2 : Vec Ideal S1x256x256 .bf16) : Prop :=
  ∀ (J : Fin 768) (e : Fin 256) (_ : 512 ≤ j.val * 256 + J.val), tiled k0 k1 k2 J e = K (ix3 b ⟨j.val * 256 + J.val - 512, by omega⟩ e)
def TableOf (R : Tab) (G : Vec Ideal S4x1x1024 .f32) : Prop :=
  ∀ (h : Fin 4) (x : Fin 1024), G (ix3 h 0 x) = R (ix2 h ⟨min (x.val - 639) 256, by omega⟩)

section Row
variable (Q K X : Arr) (R : Tab) (b : Fin 4) (j : Fin 16) (q k0 k1 k2 v0 v1 v2 : Vec Ideal S1x256x256 .bf16) (G : Vec Ideal S4x1x1024 .f32)
  (hQ : ∀ x, ∃ r : ℝ, Q x = (r : EReal)) (hK : ∀ x, ∃ r : ℝ, K x = (r : EReal)) (hR : ∀ x, ∃ r : ℝ, R x = (r : EReal))
  (hq : QueriesOf Q b j q) (hk : TilesOf K b j k0 k1 k2) (hv : TilesOf X b j v0 v1 v2) (hG : TableOf R G)
  (S : Fin 4 → FVec Ideal S256x768 .f32)
  (hS : ∀ h r J, S h (ix2 r J) = if 512 ≤ j.val * 256 + J.val then biased q k0 k1 k2 (biases G) h (ix2 r J) else ⊥)
include hQ hK hR hq hk hv hG hS

/-- A score inside the row's window and the sequence is real, and the kernel's is the reference's over `log 2`. -/
theorem score_in (h a : Fin 4) (i : Fin 64) (w : Fin 576) (hw : 512 ≤ (chunk j a).val * 64 + w.val) :
    ∃ x : ℝ, score Q K R b h (chunk j a) i w = (x : EReal)
      ∧ S h (ix2 (row a i) ⟨a.val * 64 + w.val, by omega⟩) = (x : EReal) * (((Real.log 2)⁻¹ : ℝ) : EReal) := by
  have hw' : 512 ≤ (j.val * 4 + a.val) * 64 + w.val := hw
  have hJ : 512 ≤ j.val * 256 + (a.val * 64 + w.val) := by omega
  have hband : (row a i).val / 64 ≤ (a.val * 64 + w.val) / 64 ∧ (a.val * 64 + w.val) / 64 ≤ (row a i).val / 64 + 8 := by
    unfold row; dsimp only; omega
  choose fQ eQ using hQ
  choose fK eK using hK
  choose fR eR using hR
  have hkey : ∀ d, back K b (chunk j a) w (lane h d) = (fK (ix3 b ⟨j.val * 256 + (a.val * 64 + w.val) - 512, by omega⟩ (lane h d)) : EReal) := fun d => by
    unfold back
    rw [dif_pos hw, ← eK]
    refine congrArg K ?_
    refine congrArg (fun t => ix3 b t (lane h d)) (Fin.ext ?_)
    show (j.val * 4 + a.val) * 64 + w.val - 512 = j.val * 256 + (a.val * 64 + w.val) - 512
    omega
  refine ⟨(∑ d, fQ (ix3 b (token (chunk j a) i) (lane h d)) * fK (ix3 b ⟨j.val * 256 + (a.val * 64 + w.val) - 512, by omega⟩ (lane h d))) * (1 / 8) + fR (ix2 h (place i w)), ?_, ?_⟩
  · unfold score
    rw [if_pos hw]
    simp only [hkey, eQ, eR, ← EReal.coe_mul]
    rw [sum_coe, ← EReal.coe_mul, ← EReal.coe_add]
  · rw [hS, if_pos hJ, biased_at, head_sum, if_pos hband, hG]
    have ht : ∀ d, q (ix3 0 (row a i) (lane h d)) = (fQ (ix3 b (token (chunk j a) i) (lane h d)) : EReal) := fun d => by
      rw [hq, ← eQ]
      refine congrArg Q (congrArg (fun t => ix3 b t (lane h d)) (Fin.ext ?_))
      show j.val * 256 + (a.val * 64 + i.val) = (j.val * 4 + a.val) * 64 + i.val
      omega
    have hp : (⟨min (a.val * 64 + w.val + 255 - (row a i).val - 639) 256, by omega⟩ : Fin 257) = place i w := Fin.ext (by
      show min (a.val * 64 + w.val + 255 - (a.val * 64 + i.val) - 639) 256 = min (w.val - 384 - i.val) 256
      omega)
    have hk' : ∀ e, tiled k0 k1 k2 ⟨a.val * 64 + w.val, by omega⟩ e = (fK (ix3 b ⟨j.val * 256 + (a.val * 64 + w.val) - 512, by omega⟩ e) : EReal) :=
      fun e => (hk _ e hJ).trans (eK _)
    simp only [ht, hk', ← EReal.coe_mul]
    rw [sum_coe, show R (ix2 h ⟨min (a.val * 64 + w.val + 255 - (row a i).val - 639) 256, by omega⟩) = (fR (ix2 h (place i w)) : EReal) from (congrArg (fun p => R (ix2 h p)) hp).trans (eR _),
      ← EReal.coe_mul, ← EReal.coe_add]
    refine congrArg _ ?_
    rw [add_mul, Finset.sum_mul, Finset.sum_mul]
    refine congrArg (· + _) (Finset.sum_congr rfl fun d _ => ?_)
    ring

/-- The kernel's row is the reference's. -/
theorem row_eq (a : Fin 4) (i : Fin 64) (h : Fin 4) (d : Fin 64) :
    attended S v0 v1 v2 (ix3 0 (row a i) (lane h d)) = att Q K X R b (chunk j a) i h d := by
  have hl : (lane h d).val / 64 = h.val := by unfold lane; dsimp only; omega
  unfold attended
  rw [joined_at (fun h => headOut (S h) (k0_pay14 v0 v1 v2)) (row a i) h (lane h d) hl, headOut_at]
  have hin := score_in Q K X R b j q k0 k1 k2 v0 v1 v2 G hQ hK hR hq hk hv hG S hS h a i
  have hout : ∀ w : Fin 576, ¬512 ≤ (chunk j a).val * 64 + w.val → score Q K R b h (chunk j a) i w = ⊥ := fun w hw => by
    unfold score; exact if_neg hw
  refine attend_eq _ _ _ _ (a.val * 64) (by omega) (fun w => ?_) ?_ (fun w => ?_) (fun J hJ => ?_) fun w => ?_
  · by_cases hw : 512 ≤ (chunk j a).val * 64 + w.val
    · exact Or.inr ⟨_, (hin w hw).choose_spec.1⟩
    · exact Or.inl (hout w hw)
  · exact ⟨⟨512, by omega⟩, _, (hin ⟨512, by omega⟩ (by dsimp only; omega)).choose_spec.1⟩
  · by_cases hw : 512 ≤ (chunk j a).val * 64 + w.val
    · obtain ⟨x, h1, h2⟩ := hin w hw
      rw [h1]; exact h2
    · rw [hout w hw, EReal.bot_mul_coe_of_pos (inv_pos.mpr (Real.log_pos one_lt_two))]
      refine (hS _ _ _).trans (if_neg fun hh => hw ?_)
      have : 512 ≤ j.val * 256 + (a.val * 64 + w.val) := hh
      show 512 ≤ (j.val * 4 + a.val) * 64 + w.val
      omega
  · refine (hS _ _ _).trans ?_
    split
    · rw [biased_at, if_neg (fun hh => hJ ?_)]
      · exact EReal.add_bot _
      · have : (row a i).val / 64 = a.val := by unfold row; dsimp only; omega
        omega
    · rfl
  · by_cases hw : 512 ≤ (chunk j a).val * 64 + w.val
    · refine Or.inr ?_
      have hw' : 512 ≤ (j.val * 4 + a.val) * 64 + w.val := hw
      have hJ : 512 ≤ j.val * 256 + (a.val * 64 + w.val) := by omega
      refine (keys_at v0 v1 v2 _ _).trans ((hv _ _ hJ).trans ?_)
      unfold back
      rw [dif_pos hw]
      refine congrArg X (congrArg (fun t => ix3 b t (lane h d)) (Fin.ext ?_))
      show j.val * 256 + (a.val * 64 + w.val) - 512 = (j.val * 4 + a.val) * 64 + w.val - 512
      omega
    · exact Or.inl (hout w hw)

end Row

end Cert.KernelIdeal.AttValue

end
-- ==== Proof.AttFinal.lean ====
/- The attention kernel's result array after its run: every block a grid point writes back is the same tokens of one array, `outArr`. -/
module

public import proofs.«01_k».proof.Proof.AttRun
public import proofs.«01_k».proof.Proof.AttRow
public import Idealize.ShloMosaic.Lib.Pipeline.ValueKit
public import Idealize.ShloMosaic.Lib.Claim

@[expose] public section

set_option maxRecDepth 16384

noncomputable section

namespace Cert.KernelIdeal.AttValue

open Cert.KernelIdeal Cert.KernelIdeal.Gen Cert.AttSpec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD) (t : Fin cfg0.N)

/-- The arguments, at their shapes. -/
abbrev A0 : FVec Ideal S4x4096x256 .f32 := m ((c : Thread nD τ).loc main_arg0)
abbrev A1 : FVec Ideal S4x4096x256 .f32 := m ((c : Thread nD τ).loc main_arg1)
abbrev A2 : FVec Ideal S4x4096x256 .f32 := m ((c : Thread nD τ).loc main_arg2)
abbrev A3 : FVec Ideal S4x257 .f32 := m ((c : Thread nD τ).loc main_arg3)

/-- Every window's block at a grid point. -/
theorem idx : ∀ t : Fin cfg0.N, win0_0.index t = ![t.val / 16, t.val % 16, 0] ∧ win0_1.index t = ![t.val / 16, t.val % 16 - 2, 0] ∧ win0_2.index t = ![t.val / 16, t.val % 16 - 1, 0] ∧ win0_3.index t = ![t.val / 16, t.val % 16, 0] ∧ win0_4.index t = ![t.val / 16, t.val % 16 - 2, 0] ∧ win0_5.index t = ![t.val / 16, t.val % 16 - 1, 0] ∧ win0_6.index t = ![t.val / 16, t.val % 16, 0] ∧ win0_7.index t = ![0, 0, 0] ∧ win0_8.index t = ![t.val / 16, t.val % 16, 0] ∧ (grid0.coords t 1).val = t.val % 16 :=
  (by decide +kernel : ∀ t : Fin grid0.N, _)

/-- The grid point's batch entry and tile, and the token of a row some tiles back. -/
def bt : Fin 4 := ⟨t.val / 16, by have : t.val < 64 := t.isLt; omega⟩
def tl : Fin 16 := ⟨t.val % 16, by omega⟩
def tk (o : ℕ) (r : Fin 256) : Fin 4096 := ⟨(t.val % 16 - o) * 256 + r.val, by omega⟩

/-- The block of queries at a grid point. -/
theorem blk0 (r e : Fin 256) : iblk m c 0 t (ix3 0 r e) = A0 m c (ix3 (bt t) (tk t 0 r) e) := by
  unfold A0 bt tk
  blk_simp [iblk, V, idx t]; entry_read; pointwise; blk_ext [iblk, V, idx t]

/-- The keys two tiles back. -/
theorem blk1 (r e : Fin 256) : iblk m c 1 t (ix3 0 r e) = A1 m c (ix3 (bt t) (tk t 2 r) e) := by
  unfold A1 bt tk
  blk_simp [iblk, V, idx t]; entry_read; pointwise; blk_ext [iblk, V, idx t]

/-- The keys one tile back. -/
theorem blk2 (r e : Fin 256) : iblk m c 2 t (ix3 0 r e) = A1 m c (ix3 (bt t) (tk t 1 r) e) := by
  unfold A1 bt tk
  blk_simp [iblk, V, idx t]; entry_read; pointwise; blk_ext [iblk, V, idx t]

/-- The keys of the tile. -/
theorem blk3 (r e : Fin 256) : iblk m c 3 t (ix3 0 r e) = A1 m c (ix3 (bt t) (tk t 0 r) e) := by
  unfold A1 bt tk
  blk_simp [iblk, V, idx t]; entry_read; pointwise; blk_ext [iblk, V, idx t]

/-- The values two tiles back. -/
theorem blk4 (r e : Fin 256) : iblk m c 4 t (ix3 0 r e) = A2 m c (ix3 (bt t) (tk t 2 r) e) := by
  unfold A2 bt tk
  blk_simp [iblk, V, idx t]; entry_read; pointwise; blk_ext [iblk, V, idx t]

/-- The values one tile back. -/
theorem blk5 (r e : Fin 256) : iblk m c 5 t (ix3 0 r e) = A2 m c (ix3 (bt t) (tk t 1 r) e) := by
  unfold A2 bt tk
  blk_simp [iblk, V, idx t]; entry_read; pointwise; blk_ext [iblk, V, idx t]

/-- The values of the tile. -/
theorem blk6 (r e : Fin 256) : iblk m c 6 t (ix3 0 r e) = A2 m c (ix3 (bt t) (tk t 0 r) e) := by
  unfold A2 bt tk
  blk_simp [iblk, V, idx t]; entry_read; pointwise; blk_ext [iblk, V, idx t]

/-- The table as the kernel takes it: its first entry 639 times more, its last 128 times more. -/
def grow (R : FVec Ideal S4x257 .f32) : Vec Ideal S4x1x1024 .f32 := fun j => R (ix2 (j 0) ⟨min ((j 2).val - 639) 256, by omega⟩)

/-- The array the table is taken from. -/
def growTab (R : FVec Ideal S4x257 .f32) : Vec Ideal S4x1x1024 .f32 :=
  shapeCast S4x1x1024 (concatenate S4x1024 1 [⟨S4x639, broadcastInDim S4x639 ![0, 1] bcast_S4x1_S4x639_0_1 (extractStridedSlice S4x1 ![0, 0] R slices_S4x257_S4x1_0_0)⟩, ⟨S4x257, R⟩,
    ⟨S4x128, broadcastInDim S4x128 ![0, 1] bcast_S4x1_S4x128_0_1 (extractStridedSlice S4x1 ![0, 256] R slices_S4x257_S4x1_0_256)⟩] concatenates_S4x639_S4x257_S4x128_S4x1024_d1) shapeCasts_S4x1024_S4x1x1024

/-- The array the table is taken from, entry by entry: its first entry 639 times more in front, its last 128 times more behind. -/
theorem growTab_at (R : FVec Ideal S4x257 .f32) (h : Fin 4) (x : Fin 1024) : growTab R (ix3 h 0 x) = grow R (ix3 h 0 x) := by
  unfold growTab grow
  pointwise
  split
  · exact congrArg (fun p => R (ix2 h p)) (Fin.ext (show 0 = min (x.val - 639) 256 by omega))
  · split
    · exact congrArg (fun p => R (ix2 h p)) (Fin.ext (show x.val - 639 = min (x.val - 639) 256 by omega))
    · exact congrArg (fun p => R (ix2 h p)) (Fin.ext (show 256 = min (x.val - 639) 256 by omega))

/-- The host line but its last two operations, and those two. -/
abbrev firstOps : List (HloOp τ sig (Elt Ideal)) := hostOps0.take 7
abbrev lastOps : List (HloOp τ sig (Elt Ideal)) := hostOps0.drop 7

/-- What the last two operations leave for the kernel, from what the first seven left. -/
theorem last_eq (W : Valuation τ sig (Elt Ideal)) : StableHlo.after lastOps W (Proc.tc.devRef main_v8)
    = shapeCast S4x1x1024 (concatenate S4x1024 1 [⟨S4x639, W (Proc.tc.devRef main_v4)⟩, ⟨S4x257, W (Proc.tc.devRef main_arg3)⟩,
    ⟨S4x128, W (Proc.tc.devRef main_v6)⟩] concatenates_S4x639_S4x257_S4x128_S4x1024_d1) shapeCasts_S4x1024_S4x1x1024 := by
  show StableHlo.after [_, _] W _ = _
  simp only [StableHlo.after_cons, StableHlo.after_nil]
  rw [StableHlo.reshape_result, StableHlo.nary_result]
  rfl

/-- The copies of the table's first entry. -/
theorem first4 : StableHlo.after firstOps (fun b => m (c, b)) (Proc.tc.devRef main_v4) = broadcastInDim S4x639 ![0, 1] bcast_S4x1_S4x639_0_1 (extractStridedSlice S4x1 ![0, 0] (A3 m c) slices_S4x257_S4x1_0_0) := by
  show StableHlo.after [_, _, _, _, _, _, _] _ _ = _
  entry_read
  rfl

/-- The table itself. -/
theorem first3 : StableHlo.after firstOps (fun b => m (c, b)) (Proc.tc.devRef main_arg3) = A3 m c := by
  show StableHlo.after [_, _, _, _, _, _, _] _ _ = _
  entry_read
  rfl

/-- The copies of the table's last entry. -/
theorem first6 : StableHlo.after firstOps (fun b => m (c, b)) (Proc.tc.devRef main_v6) = broadcastInDim S4x128 ![0, 1] bcast_S4x1_S4x128_0_1 (extractStridedSlice S4x1 ![0, 256] (A3 m c) slices_S4x257_S4x1_0_256) := by
  show StableHlo.after [_, _, _, _, _, _, _] _ _ = _
  entry_read
  rfl

/-- The host line's result for the kernel's table operand. -/
theorem entry8 : StableHlo.after hostOps0 (fun b => m (c, b)) (Proc.tc.devRef main_v8) = growTab (A3 m c) := by
  show StableHlo.after lastOps (StableHlo.after firstOps fun b => m (c, b)) _ = _
  rw [last_eq, first4, first3, first6]
  rfl

/-- The table's block is the whole widened table at every grid point. -/
theorem blk7 : iblk m c 7 t = grow (A3 m c) := by
  funext j
  obtain ⟨h, x, rfl⟩ : ∃ h x, j = ix3 h 0 x := ⟨j 0, j 2, by funext k; fin_cases k; rfl; exact Subsingleton.elim (α := Fin 1) _ _; rfl⟩
  rw [← growTab_at]
  blk_simp [iblk, V, idx t]
  rw [entry8]
  blk_ext [iblk, V, idx t]

/-- The scratch holds the heads' biases after every grid point. -/
theorem scratch_first (h0 : t.val % 64 = 0) : (outsAt0 m c t.val t.isLt).2 = biases (grow (A3 m c)) := by
  refine (congrArg Prod.snd (outsAt0_A m c t h0 (by omega) (by omega))).trans ?_
  dsimp only
  rw [sout_A, blk7]

/-- No other point writes the scratch. -/
theorem scratch_next (h0 : ¬t.val % 64 = 0) : (outsAt0 m c t.val t.isLt).2 = (outsAt0 m c (t.val - 1) (Nat.lt_of_le_of_lt (Nat.sub_le _ _) t.isLt)).2 := by
  have hN : t.val < 64 := t.isLt
  by_cases h1 : t.val % 16 ≤ 1
  · exact (congrArg Prod.snd (outsAt0_B m c t h0 h1 (by omega))).trans (by dsimp only [sout0_B_0])
  · exact (congrArg Prod.snd (outsAt0_C m c t h0 h1 (by omega))).trans (by dsimp only [sout0_C_0])

/-- The scratch holds the heads' biases after every grid point. -/
theorem scratch_eq (n : ℕ) (hn : n < cfg0.N) : (outsAt0 m c n hn).2 = biases (grow (A3 m c)) := by
  induction n with
  | zero => exact scratch_first m c ⟨0, hn⟩ rfl
  | succ n ih =>
    have hN : n + 1 < 64 := lt_of_lt_of_eq hn (show cfg0.N = 64 from N_0)
    exact (scratch_next m c ⟨n + 1, hn⟩ (by dsimp only; omega)).trans (ih _)

/-- The heads' scores at a grid point: masked where the window starts before the sequence. -/
def tileScores (h : Fin 4) : FVec Ideal S256x768 .f32 :=
  if t.val % 16 ≤ 1 then seen (inSeq (grid0.coords t)) (biased (iblk m c 0 t) (iblk m c 1 t) (iblk m c 2 t) (iblk m c 3 t) (biases (grow (A3 m c))) h)
  else biased (iblk m c 0 t) (iblk m c 1 t) (iblk m c 2 t) (iblk m c 3 t) (biases (grow (A3 m c))) h

/-- The block a grid point writes. -/
theorem block_eq : (outsAt0 m c t.val t.isLt).1 = attended (tileScores m c t) (iblk m c 4 t) (iblk m c 5 t) (iblk m c 6 t) := by
  have hN : t.val < 64 := t.isLt
  by_cases h1 : t.val % 16 ≤ 1
  · have hs : tileScores m c t = fun h => seen (inSeq (grid0.coords t)) (biased (iblk m c 0 t) (iblk m c 1 t) (iblk m c 2 t) (iblk m c 3 t) (biases (grow (A3 m c))) h) := by
      funext h; unfold tileScores; exact if_pos h1
    rw [hs]
    by_cases h0 : t.val % 64 = 0
    · rw [outsAt0_A m c t h0 h1 (by omega)]
      dsimp only
      rw [out_A, blk7]
    · rw [outsAt0_B m c t h0 h1 (by omega)]
      dsimp only
      rw [out_B, scratch_eq]
  · have hs : tileScores m c t = biased (iblk m c 0 t) (iblk m c 1 t) (iblk m c 2 t) (iblk m c 3 t) (biases (grow (A3 m c))) := by
      funext h; unfold tileScores; exact if_neg h1
    rw [hs, outsAt0_C m c t (by omega) h1 (by omega)]
    dsimp only
    rw [out_C, scratch_eq]

/-- A score at a grid point, masked where its column lies before the sequence. -/
theorem tileScores_at (h : Fin 4) (r : Fin 256) (J : Fin 768) : tileScores m c t h (ix2 r J)
    = if 512 ≤ (tl t).val * 256 + J.val then biased (iblk m c 0 t) (iblk m c 1 t) (iblk m c 2 t) (iblk m c 3 t) (biases (grow (A3 m c))) h (ix2 r J) else ⊥ := by
  unfold tileScores
  have hc : (grid0.coords t 1).val = t.val % 16 := (idx t).2.2.2.2.2.2.2.2.2
  by_cases h1 : t.val % 16 ≤ 1
  · rw [if_pos h1]
    generalize biased (iblk m c 0 t) (iblk m c 1 t) (iblk m c 2 t) (iblk m c 3 t) (biases (grow (A3 m c))) h = B
    unfold seen inSeq
    rw [hc]
    pointwise [before_at (t.val % 16) (by omega) r J, mask_eq]
    show _ = if 512 ≤ t.val % 16 * 256 + J.val then _ else _
    split <;> rfl
  · rw [if_neg h1]
    refine (if_pos ?_).symm
    show 512 ≤ t.val % 16 * 256 + J.val
    omega

/-- The three tiles under a query tile, where the sequence has begun. -/
theorem keys_tiled (J : Fin 768) (e : Fin 256) (hJ : 512 ≤ (tl t).val * 256 + J.val) :
    tiled (iblk m c 1 t) (iblk m c 2 t) (iblk m c 3 t) J e = A1 m c (ix3 (bt t) ⟨(tl t).val * 256 + J.val - 512, by omega⟩ e) := by
  have hJ' : 512 ≤ t.val % 16 * 256 + J.val := hJ
  unfold tiled
  split
  · rw [blk1]; exact congrArg (fun k => A1 m c (ix3 (bt t) k e)) (Fin.ext (show (t.val % 16 - 2) * 256 + J.val = t.val % 16 * 256 + J.val - 512 by omega))
  · split
    · rw [blk2]; exact congrArg (fun k => A1 m c (ix3 (bt t) k e)) (Fin.ext (show (t.val % 16 - 1) * 256 + (J.val - 256) = t.val % 16 * 256 + J.val - 512 by omega))
    · rw [blk3]; exact congrArg (fun k => A1 m c (ix3 (bt t) k e)) (Fin.ext (show (t.val % 16 - 0) * 256 + (J.val - 256 - 256) = t.val % 16 * 256 + J.val - 512 by omega))

/-- The same of the values. -/
theorem values_tiled (J : Fin 768) (e : Fin 256) (hJ : 512 ≤ (tl t).val * 256 + J.val) :
    tiled (iblk m c 4 t) (iblk m c 5 t) (iblk m c 6 t) J e = A2 m c (ix3 (bt t) ⟨(tl t).val * 256 + J.val - 512, by omega⟩ e) := by
  have hJ' : 512 ≤ t.val % 16 * 256 + J.val := hJ
  unfold tiled
  split
  · rw [blk4]; exact congrArg (fun k => A2 m c (ix3 (bt t) k e)) (Fin.ext (show (t.val % 16 - 2) * 256 + J.val = t.val % 16 * 256 + J.val - 512 by omega))
  · split
    · rw [blk5]; exact congrArg (fun k => A2 m c (ix3 (bt t) k e)) (Fin.ext (show (t.val % 16 - 1) * 256 + (J.val - 256) = t.val % 16 * 256 + J.val - 512 by omega))
    · rw [blk6]; exact congrArg (fun k => A2 m c (ix3 (bt t) k e)) (Fin.ext (show (t.val % 16 - 0) * 256 + (J.val - 256 - 256) = t.val % 16 * 256 + J.val - 512 by omega))

/-- The result array: every token's attention, head by head. -/
def outArr : Buf (Elt Ideal) ((c : Thread nD τ).loc main_v9) := fun i : S4x4096x256.Idx =>
  att (A0 m c) (A1 m c) (A2 m c) (A3 m c) (i 0) ⟨(i 1).val / 64, by have := (i 1).isLt; change (i 1).val < 4096 at this; omega⟩ ⟨(i 1).val % 64, by omega⟩
    ⟨(i 2).val / 64, by have := (i 2).isLt; change (i 2).val < 256 at this; omega⟩ ⟨(i 2).val % 64, by omega⟩

section Finite
variable (hQ : ∀ x, ∃ r : ℝ, A0 m c x = (r : EReal)) (hK : ∀ x, ∃ r : ℝ, A1 m c x = (r : EReal)) (hR : ∀ x, ∃ r : ℝ, A3 m c x = (r : EReal))
include hQ hK hR

/-- A block's row is the result array's. -/
theorem out_rows (r e : Fin 256) : attended (tileScores m c t) (iblk m c 4 t) (iblk m c 5 t) (iblk m c 6 t) (ix3 0 r e) = outArr m c (ix3 (bt t) (tk t 0 r) e) := by
  have hr : r = row ⟨r.val / 64, by omega⟩ ⟨r.val % 64, by omega⟩ := Fin.ext (show r.val = r.val / 64 * 64 + r.val % 64 by omega)
  have he : e = lane ⟨e.val / 64, by omega⟩ ⟨e.val % 64, by omega⟩ := Fin.ext (show e.val = e.val / 64 * 64 + e.val % 64 by omega)
  have h := row_eq (A0 m c) (A1 m c) (A2 m c) (A3 m c) (bt t) (tl t) (iblk m c 0 t) (iblk m c 1 t) (iblk m c 2 t) (iblk m c 3 t) (iblk m c 4 t) (iblk m c 5 t) (iblk m c 6 t)
    (grow (A3 m c)) hQ hK hR (fun r e => blk0 m c t r e) (keys_tiled m c t) (values_tiled m c t) (fun h x => rfl) (tileScores m c t) (tileScores_at m c t)
    ⟨r.val / 64, by omega⟩ ⟨r.val % 64, by omega⟩ ⟨e.val / 64, by omega⟩ ⟨e.val % 64, by omega⟩
  rw [← hr, ← he] at h
  refine h.trans ?_
  have h1 : chunk (tl t) ⟨r.val / 64, by omega⟩ = ⟨(tk t 0 r).val / 64, by have := (tk t 0 r).isLt; omega⟩ := Fin.ext (by
    show t.val % 16 * 4 + r.val / 64 = ((t.val % 16 - 0) * 256 + r.val) / 64
    omega)
  have h2 : (⟨r.val % 64, by omega⟩ : Fin 64) = ⟨(tk t 0 r).val % 64, by omega⟩ := Fin.ext (by
    show r.val % 64 = ((t.val % 16 - 0) * 256 + r.val) % 64
    omega)
  rw [h1, h2]
  rfl

/-- The result array after the run. -/
theorem final : (dats m 0 c).arrAt 8 cfg0.N = outArr m c := by
  refine (dats m 0 c).arrAt_eq_of_covers 8 _ (by decide +kernel) fun t hf y => ?_
  blk_simp
  rw [after0_8, block_eq]
  obtain ⟨r, e, rfl⟩ : ∃ r e, y = ix3 0 r e := ⟨y 1, y 2, by funext k; fin_cases k; exact Subsingleton.elim (α := Fin 1) _ _; rfl; rfl⟩
  refine (out_rows m c t hQ hK hR r e).trans ?_
  show outArr m c (ix3 (bt t) (tk t 0 r) e) = _
  unfold bt tk
  blk_ext [iblk, V, idx t]

end Finite

end Cert.KernelIdeal.AttValue

end
-- ==== Proof.AttRef.lean ====
/- The reference's attention, read at an index. -/
module

public import proofs.«01_k».proof.Proof.AttSpec
public import proofs.«01_k».proof.Proof.Gen.ReferenceIdeal.Run
public import Idealize.ShloMosaic.PureOps.Ideal
public import Idealize.ShloMosaic.Lib.Pointwise
public import Idealize.ShloMosaic.Lib.Tactic.CleanTypes

@[expose] public section

set_option maxRecDepth 16384

noncomputable section

namespace Cert.ReferenceIdeal.AttRef

open Cert.ReferenceIdeal Cert.ReferenceIdeal.Gen Cert.ReferenceIdeal.Value
open Idealize.ShloMosaic Idealize.ShloMosaic.TcCoe Idealize.SL.Sem

variable (Q K W X : FVec Ideal S4x4096x256 .f32) (R : FVec Ideal S4x257 .f32)

/-- An array cut into chunks and heads, eight empty chunks put before it. -/
def padded : FVec Ideal S4x72x64x4x64 .f32 :=
  pad S4x72x64x4x64 ![0, 8, 0, 0, 0] ![0, 0, 0, 0, 0] ![0, 0, 0, 0, 0] (shapeCast S4x64x64x4x64 X shapeCasts_S4x4096x256_S4x64x64x4x64)
    (sitofp .f32 (constantI S_ 32 0#32)) pads_S4x64x64x4x64_S4x72x64x4x64_000_800_000_000_000 h_S_

/-- Of every chunk, the nine chunks that end with it. -/
def window : FVec Ideal S4x64x576x4x64 .f32 :=
  concatenate S4x64x576x4x64 2 [⟨S4x64x64x4x64, extractStridedSlice S4x64x64x4x64 ![0, 0, 0, 0, 0] (padded X) slices_S4x72x64x4x64_S4x64x64x4x64_0_0_0_0_0⟩,
    ⟨S4x64x64x4x64, extractStridedSlice S4x64x64x4x64 ![0, 1, 0, 0, 0] (padded X) slices_S4x72x64x4x64_S4x64x64x4x64_0_1_0_0_0⟩,
    ⟨S4x64x64x4x64, extractStridedSlice S4x64x64x4x64 ![0, 2, 0, 0, 0] (padded X) slices_S4x72x64x4x64_S4x64x64x4x64_0_2_0_0_0⟩,
    ⟨S4x64x64x4x64, extractStridedSlice S4x64x64x4x64 ![0, 3, 0, 0, 0] (padded X) slices_S4x72x64x4x64_S4x64x64x4x64_0_3_0_0_0⟩,
    ⟨S4x64x64x4x64, extractStridedSlice S4x64x64x4x64 ![0, 4, 0, 0, 0] (padded X) slices_S4x72x64x4x64_S4x64x64x4x64_0_4_0_0_0⟩,
    ⟨S4x64x64x4x64, extractStridedSlice S4x64x64x4x64 ![0, 5, 0, 0, 0] (padded X) slices_S4x72x64x4x64_S4x64x64x4x64_0_5_0_0_0⟩,
    ⟨S4x64x64x4x64, extractStridedSlice S4x64x64x4x64 ![0, 6, 0, 0, 0] (padded X) slices_S4x72x64x4x64_S4x64x64x4x64_0_6_0_0_0⟩,
    ⟨S4x64x64x4x64, extractStridedSlice S4x64x64x4x64 ![0, 7, 0, 0, 0] (padded X) slices_S4x72x64x4x64_S4x64x64x4x64_0_7_0_0_0⟩,
    ⟨S4x64x64x4x64, extractStridedSlice S4x64x64x4x64 ![0, 8, 0, 0, 0] (padded X) slices_S4x72x64x4x64_S4x64x64x4x64_0_8_0_0_0⟩]
    concatenates_S4x64x64x4x64_S4x64x64x4x64_S4x64x64x4x64_S4x64x64x4x64_S4x64x64x4x64_S4x64x64x4x64_S4x64x64x4x64_S4x64x64x4x64_S4x64x64x4x64_S4x64x576x4x64_d2

/-- The clipped relative position's place in the table. -/
def place : IVec S64x576x1 32 :=
  let rel : IVec S64x576 32 := subi
    (broadcastInDim S64x576 ![0, 1] bcast_S1x576_S64x576_0_1 (subi (broadcastInDim S1x576 ![1] bcast_S576_S1x576_1 (iotaInDim S576 32 0))
      (broadcastInDim S1x576 ![] bcast_S_S1x576 (constantI S_ 32 512#32))))
    (broadcastInDim S64x576 ![0, 1] bcast_S64x1_S64x576_0_1 (broadcastInDim S64x1 ![0] bcast_S64_S64x1_0 (iotaInDim S64 32 0)))
  let clip : IVec S64x576 32 := minsi (broadcastInDim S64x576 ![] bcast_S_S64x576 (constantI S_ 32 128#32))
    (maxsi (broadcastInDim S64x576 ![] bcast_S_S64x576 (constantI S_ 32 4294967168#32)) rel)
  let at0 : IVec S64x576 32 := addi clip (broadcastInDim S64x576 ![] bcast_S_S64x576 (constantI S_ 32 128#32))
  broadcastInDim S64x576x1 ![0, 1] bcast_S64x576_S64x576x1_0_1
    (select (cmpi .slt at0 (broadcastInDim S64x576 ![] bcast_S_S64x576 (constantI S_ 32 0#32)))
      (addi at0 (broadcastInDim S64x576 ![] bcast_S_S64x576 (constantI S_ 32 257#32))) at0)

/-- The bias of every head. -/
def bias : FVec Ideal S4x64x576 .f32 := Host.gather gather_S4x257_S64x576x1_S4x64x576_0_1_n_n_1_2_41 R place

/-- Which window chunks lie in the sequence. -/
def valid : IVec S64x576 1 :=
  cmpi .sge (subi (addi (broadcastInDim S64x576 ![0, 1] bcast_S64x1_S64x576_0_1 (broadcastInDim S64x1 ![0] bcast_S64_S64x1_0 (iotaInDim S64 32 0)))
    (broadcastInDim S64x576 ![0, 1] bcast_S1x576_S64x576_0_1 (broadcastInDim S1x576 ![1] bcast_S576_S1x576_1
      (shapeCast S576 (broadcastInDim S9x64 ![0] bcast_S9_S9x64_0 (iotaInDim S9 32 0)) shapeCasts_S9x64_S576))))
    (broadcastInDim S64x576 ![] bcast_S_S64x576 (constantI S_ 32 8#32)))
    (broadcastInDim S64x576 ![] bcast_S_S64x576 (constantI S_ 32 0#32))

/-- The scores. -/
def scores : FVec Ideal S4x4x64x64x576 .f32 :=
  select (broadcastInDim S4x4x64x64x576 ![2, 3, 4] bcast_S64x1x576_S4x4x64x64x576_2_3_4 (broadcastInDim S64x1x576 ![0, 2] bcast_S64x576_S64x1x576_0_2 valid))
    (addf (mulf (Host.dotGeneral (φ₁ := .f32) (φ₂ := .f32) dot_S4x64x64x4x64_S4x64x576x4x64_S4x4x64x64x576_4_4_2_2_031_031 none
        (shapeCast S4x64x64x4x64 Q shapeCasts_S4x4096x256_S4x64x64x4x64) (window K))
        (broadcastInDim S4x4x64x64x576 ![] bcast_S_S4x4x64x64x576 (constant S_ .f32 0x3E000000#32)))
      (broadcastInDim S4x4x64x64x576 ![0, 1, 2, 3, 4] bcast_S1x4x1x64x576_S4x4x64x64x576_0_1_2_3_4
        (broadcastInDim S1x4x1x64x576 ![1, 2, 3, 4] bcast_S4x1x64x576_S1x4x1x64x576_1_2_3_4
          (broadcastInDim S4x1x64x576 ![0, 2, 3] bcast_S4x64x576_S4x1x64x576_0_2_3 (bias R)))))
    (broadcastInDim S4x4x64x64x576 ![] bcast_S_S4x4x64x64x576 (constant S_ .f32 0xFF800000#32))

/-- The greatest score of every row. -/
def rowMax (S : FVec Ideal S4x4x64x64x576 .f32) : FVec Ideal S4x4x64x64 .f32 :=
  Host.reduce FloatOps.maximumf S (constant S_ .f32 0xFF800000#32) reducesTo_S4x4x64x64x576_S4x4x64x64_d4 h_S_

/-- A row's weights before they are divided by their sum, from the row's greatest score. -/
def expd (S : FVec Ideal S4x4x64x64x576 .f32) (M : FVec Ideal S4x4x64x64 .f32) : FVec Ideal S4x4x64x64x576 .f32 :=
  Host.exp (subf S (broadcastInDim S4x4x64x64x576 ![0, 1, 2, 3, 4] bcast_S4x4x64x64x1_S4x4x64x64x576_0_1_2_3_4
    (broadcastInDim S4x4x64x64x1 ![0, 1, 2, 3] bcast_S4x4x64x64_S4x4x64x64x1_0_1_2_3
      (maximumf (broadcastInDim S4x4x64x64 ![] bcast_S_S4x4x64x64 (constant S_ .f32 0xFF800000#32)) M))))

/-- The attention's weights. -/
def weights (E : FVec Ideal S4x4x64x64x576 .f32) : FVec Ideal S4x4x64x64x576 .f32 :=
  Host.divf E (broadcastInDim S4x4x64x64x576 ![0, 1, 2, 3, 4] bcast_S4x4x64x64x1_S4x4x64x64x576_0_1_2_3_4
    (broadcastInDim S4x4x64x64x1 ![0, 1, 2, 3] bcast_S4x4x64x64_S4x4x64x64x1_0_1_2_3
      (Host.reduceAdd E (constant S_ .f32 0x00000000#32) reducesTo_S4x4x64x64x576_S4x4x64x64_d4 h_S_)))

/-- The attention's result. -/
def refOut : FVec Ideal S4x4096x256 .bf16 :=
  truncf .bf16 (shapeCast S4x4096x256 (transpose S4x64x64x4x64 [0, 1, 4, 2, 3]
    (Host.dotGeneral (φ₁ := .f32) (φ₂ := .f32) dot_S4x64x576x4x64_S4x4x64x64x576_S4x64x4x64x64_2_4_4_3_013_021 none (window W) (weights (expd (scores Q K R) (rowMax (scores Q K R)))))
    transposes_S4x64x4x64x64_S4x64x64x4x64_0_1_4_2_3) shapeCasts_S4x64x64x4x64_S4x4096x256) bitsLt_bf16_f32

/-- The run's result is that array of the arguments. -/
theorem res_eq (m : (ℓ : Loc nD τ sig) → Buf (Elt Ideal) ℓ) (c : Dev nD) :
    res_main_v80 m c = refOut (m ((c.tc : Thread nD τ).loc main_arg0)) (m ((c.tc : Thread nD τ).loc main_arg1))
      (m ((c.tc : Thread nD τ).loc main_arg2)) (m ((c.tc : Thread nD τ).loc main_arg3)) := rfl

/-- The two float constants' values. -/
theorem ninf_eq : Ideal.ofBits .f32 0xFF800000#32 = ⊥ := by
  simp [Ideal.ofBits, Ideal.ieee]

/-- The reference's scale. -/
theorem eighth_eq : Ideal.ofBits .f32 0x3E000000#32 = ((1 / 8 : ℝ) : EReal) := by
  simp [Ideal.ofBits, Ideal.ieee, -EReal.coe_mul]; norm_num

end Cert.ReferenceIdeal.AttRef

end
-- ==== Proof.AttRefWin.lean ====
/- The reference's window, read at an index. -/
module

public import proofs.«01_k».proof.Proof.AttRef

@[expose] public section

set_option maxRecDepth 16384

noncomputable section

namespace Cert.ReferenceIdeal.AttRef

open Cert.ReferenceIdeal Cert.ReferenceIdeal.Gen Cert.ReferenceIdeal.Value
open Idealize.ShloMosaic Idealize.ShloMosaic.TcCoe Idealize.SL.Sem

variable (Q K W X : FVec Ideal S4x4096x256 .f32) (R : FVec Ideal S4x257 .f32)

/-- The padding value. -/
theorem zero_eq : (FloatOps.sitofp .f32 0#32 : Ideal .f32) = (0 : EReal) := by
  show (((0#32 : BitVec 32).toInt : ℝ) : EReal) = 0
  simp

/-- A padded chunk holds what lies eight chunks back. -/
theorem padded_at (b : Fin 4) (n : Fin 72) (r : Fin 64) (h : Fin 4) (d : Fin 64) :
    padded X (ix5 b n r h d) = if hn : 8 ≤ n.val then X (ix3 b ⟨(n.val - 8) * 64 + r.val, by omega⟩ (AttSpec.lane h d)) else 0 := by
  unfold AttSpec.lane
  unfold padded
  pointwise
  rw [zero_eq]
  by_cases hn : 8 ≤ n.val
  · rw [dif_pos hn, dif_pos ⟨hn, by omega⟩]
  · rw [dif_neg hn, dif_neg fun c => hn c.1]

/-- A window column holds what lies 512 tokens back. -/
theorem window_at (b : Fin 4) (n : Fin 64) (w : Fin 576) (h : Fin 4) (d : Fin 64) :
    window X (ix5 b n w h d) = AttSpec.back X b n w (AttSpec.lane h d) := by
  have key : window X (ix5 b n w h d) = padded X (ix5 b ⟨n.val + w.val / 64, by omega⟩ ⟨w.val % 64, by omega⟩ h d) := by
    unfold window
    generalize padded X = P
    pointwise
    have col : ∀ (p : Fin 72) (r : Fin 64), p.val = n.val + w.val / 64 → r.val = w.val % 64 →
        P (ix5 b p r h d) = P (ix5 b ⟨n.val + w.val / 64, by omega⟩ ⟨w.val % 64, by omega⟩ h d) :=
      fun p r hp hr => by rw [Fin.ext (b := ⟨n.val + w.val / 64, by omega⟩) hp, Fin.ext (b := ⟨w.val % 64, by omega⟩) hr]
    by_cases h0 : w.val < 64
    · rw [dif_pos h0]; exact col ⟨_, _⟩ ⟨_, _⟩ (by dsimp only; omega) (by dsimp only; omega)
    rw [dif_neg h0]
    by_cases h1 : w.val - 64 < 64
    · rw [dif_pos h1]; exact col ⟨_, _⟩ ⟨_, _⟩ (by dsimp only; omega) (by dsimp only; omega)
    rw [dif_neg h1]
    by_cases h2 : w.val - 64 - 64 < 64
    · rw [dif_pos h2]; exact col ⟨_, _⟩ ⟨_, _⟩ (by dsimp only; omega) (by dsimp only; omega)
    rw [dif_neg h2]
    by_cases h3 : w.val - 64 - 64 - 64 < 64
    · rw [dif_pos h3]; exact col ⟨_, _⟩ ⟨_, _⟩ (by dsimp only; omega) (by dsimp only; omega)
    rw [dif_neg h3]
    by_cases h4 : w.val - 64 - 64 - 64 - 64 < 64
    · rw [dif_pos h4]; exact col ⟨_, _⟩ ⟨_, _⟩ (by dsimp only; omega) (by dsimp only; omega)
    rw [dif_neg h4]
    by_cases h5 : w.val - 64 - 64 - 64 - 64 - 64 < 64
    · rw [dif_pos h5]; exact col ⟨_, _⟩ ⟨_, _⟩ (by dsimp only; omega) (by dsimp only; omega)
    rw [dif_neg h5]
    by_cases h6 : w.val - 64 - 64 - 64 - 64 - 64 - 64 < 64
    · rw [dif_pos h6]; exact col ⟨_, _⟩ ⟨_, _⟩ (by dsimp only; omega) (by dsimp only; omega)
    rw [dif_neg h6]
    by_cases h7 : w.val - 64 - 64 - 64 - 64 - 64 - 64 - 64 < 64
    · rw [dif_pos h7]; exact col ⟨_, _⟩ ⟨_, _⟩ (by dsimp only; omega) (by dsimp only; omega)
    rw [dif_neg h7]
    exact col ⟨_, _⟩ ⟨_, _⟩ (by dsimp only; omega) (by dsimp only; omega)
  rw [key, padded_at]
  unfold AttSpec.back
  by_cases hn : 512 ≤ n.val * 64 + w.val
  · rw [dif_pos hn, dif_pos (by dsimp only; omega)]
    exact congrArg (fun p => X (ix3 b p _)) (Fin.ext (by dsimp only; omega))
  · rw [dif_neg hn, dif_neg (by dsimp only; omega)]

end Cert.ReferenceIdeal.AttRef

end
-- ==== Proof.AttRefBias.lean ====
/- The reference's bias and mask, read at an index. -/
module

public import proofs.«01_k».proof.Proof.AttRef

@[expose] public section

set_option maxRecDepth 16384

noncomputable section

namespace Cert.ReferenceIdeal.AttRef

open Cert.ReferenceIdeal Cert.ReferenceIdeal.Gen Cert.ReferenceIdeal.Value
open Idealize.ShloMosaic Idealize.ShloMosaic.TcCoe Idealize.SL.Sem

variable (Q K W X : FVec Ideal S4x4096x256 .f32) (R : FVec Ideal S4x257 .f32)

/-- The clipped place, from the difference of the two positions, a window of 639. -/
theorem clip_val : ∀ k : Fin 639,
    min (Scalar.select (IntOp.cmpi .slt (IntOp.addi (IntOp.minsi (128#32) (IntOp.maxsi (4294967168#32) (BitVec.ofNat 32 k.val - 575#32))) 128#32) 0#32)
      (IntOp.addi (IntOp.addi (IntOp.minsi (128#32) (IntOp.maxsi (4294967168#32) (BitVec.ofNat 32 k.val - 575#32))) 128#32) 257#32)
      (IntOp.addi (IntOp.minsi (128#32) (IntOp.maxsi (4294967168#32) (BitVec.ofNat 32 k.val - 575#32))) 128#32)).toInt.toNat 256
    = min (k.val - 447) 256 := by decide +kernel

/-- The table place the reference computes. -/
theorem place_val (i : Fin 64) (w : Fin 576) : min (AttRef.place (ix3 i w 0)).toInt.toNat 256 = (AttSpec.place i w).val := by
  have hk : IntOp.subi (IntOp.subi (BitVec.ofNat 32 w.val) 512#32) (BitVec.ofNat 32 i.val) = BitVec.ofNat 32 (w.val + 63 - i.val) - 575#32 := by
    show BitVec.ofNat 32 w.val - 512#32 - BitVec.ofNat 32 i.val = _
    bv_omega
  unfold place
  pointwise
  rw [hk, clip_val ⟨w.val + 63 - i.val, by omega⟩]
  show min (w.val + 63 - i.val - 447) 256 = min (w.val - 384 - i.val) 256
  omega

/-- The gather reads, of a row, the entry its index names. -/
theorem gather_at (I : IVec S64x576x1 32) (h : Fin 4) (i : Fin 64) (w : Fin 576) :
    Host.gather gather_S4x257_S64x576x1_S4x64x576_0_1_n_n_1_2_41 R I (ix3 h i w)
      = R (ix2 h ⟨min (I (ix3 i w 0)).toInt.toNat 256, by omega⟩) := by
  unfold Host.gather
  refine congrArg R ?_
  funext a
  refine Fin.ext ?_
  show (gather_S4x257_S64x576x1_S4x64x576_0_1_n_n_1_2_41).start (ix3 h i w) I a
      + (gather_S4x257_S64x576x1_S4x64x576_0_1_n_n_1_2_41).batchCoord (ix3 h i w) a
      + (gather_S4x257_S64x576x1_S4x64x576_0_1_n_n_1_2_41).offCoord (ix3 h i w) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    rw [Nat.add_zero, Nat.zero_add]
    rfl
  · rw [GatherDims.offCoord_eq_zero _ _ _ (fun h => ((GatherDims.mem_sKept _ _).mp h).1 (List.mem_singleton.mpr rfl))]
    rw [Nat.add_zero]
    unfold GatherDims.start
    rw [dif_pos (show (1 : Fin 2) ∈ (gather_S4x257_S64x576x1_S4x64x576_0_1_n_n_1_2_41).startIndexMap from List.mem_singleton.mpr rfl)]
    have hsi : (gather_S4x257_S64x576x1_S4x64x576_0_1_n_n_1_2_41).siIdx (ix3 h i w)
        ⟨List.idxOf (1 : Fin 2) (gather_S4x257_S64x576x1_S4x64x576_0_1_n_n_1_2_41).startIndexMap,
        List.idxOf_lt_length_iff.2 (List.mem_singleton.mpr rfl)⟩ = ix3 i w 0 := by
      funext b; refine Fin.ext ?_
      match b with
      | ⟨0, _⟩ => rfl
      | ⟨1, _⟩ => rfl
      | ⟨2, _⟩ => rfl
    rw [hsi]
    rfl

/-- A bias is the table's entry at the clipped relative position. -/
theorem bias_at (h : Fin 4) (i : Fin 64) (w : Fin 576) : bias R (ix3 h i w) = R (ix2 h (AttSpec.place i w)) := by
  unfold bias
  rw [gather_at]
  exact congrArg (fun p => R (ix2 h p)) (Fin.ext (place_val i w))

/-- A window column is valid from the sequence's first token on. -/
theorem valid_at (n : Fin 64) (w : Fin 576) : valid (ix2 n w) = if 512 ≤ n.val * 64 + w.val then 1#1 else 0#1 := by
  have h : ∀ (n : Fin 64) (q : Fin 9), IntOp.cmpi .sge (IntOp.subi (IntOp.addi (BitVec.ofNat 32 n.val) (BitVec.ofNat 32 q.val)) 8#32) 0#32
      = if 8 ≤ n.val + q.val then 1#1 else 0#1 := by decide +kernel
  unfold valid
  pointwise
  refine (h n ⟨w.val / 64, by omega⟩).trans ?_
  dsimp only
  refine if_congr ?_ rfl rfl
  omega

end Cert.ReferenceIdeal.AttRef

end
-- ==== Proof.AttRefSoft.lean ====
/- The reference's softmax, read at an index. -/
module

public import proofs.«01_k».proof.Proof.AttRef

@[expose] public section

set_option maxRecDepth 16384

noncomputable section

namespace Cert.ReferenceIdeal.AttRef

open Cert.ReferenceIdeal Cert.ReferenceIdeal.Gen Cert.ReferenceIdeal.Value
open Idealize.ShloMosaic Idealize.ShloMosaic.TcCoe Idealize.SL.Sem

variable (Q K W X : FVec Ideal S4x4096x256 .f32) (R : FVec Ideal S4x257 .f32)

/-- A maximum over the window, from any first value. -/
theorem max_at (S : FVec Ideal S4x4x64x64x576 .f32) (c : FVec Ideal S_ .f32) (hr : S4x4x64x64x576.ReducesTo [4] S4x4x64x64) (b h : Fin 4) (n i : Fin 64) :
    Host.reduce FloatOps.maximumf S c hr h_S_ (ix4 b h n i) = Finset.univ.fold max (c (Shape.Idx.first h_S_)) fun w : Fin 576 => S (ix5 b h n i w) := by
  simp only [pointwise]

/-- A maximum from the least value is the supremum. -/
theorem fold_sup (f : Fin 576 → EReal) : Finset.univ.fold max ⊥ f = Finset.univ.sup f := rfl

/-- The greatest score of a row. -/
theorem rowMax_at (S : FVec Ideal S4x4x64x64x576 .f32) (b h : Fin 4) (n i : Fin 64) :
    rowMax S (ix4 b h n i) = Finset.univ.sup fun w : Fin 576 => S (ix5 b h n i w) := by
  unfold rowMax
  refine (max_at S _ _ b h n i).trans ?_
  have hc : ∀ c : EReal, c = ⊥ → (Finset.univ.fold max c fun w : Fin 576 => S (ix5 b h n i w)) = Finset.univ.sup fun w : Fin 576 => S (ix5 b h n i w) := by
    rintro c rfl
    exact fold_sup _
  exact hc _ ninf_eq

/-- A weight before the division. -/
theorem expd_at (S : FVec Ideal S4x4x64x64x576 .f32) (M : FVec Ideal S4x4x64x64 .f32) (b h : Fin 4) (n i : Fin 64) (w : Fin 576) :
    expd S M (ix5 b h n i w) = Ideal.exp (S (ix5 b h n i w) - M (ix4 b h n i)) := by
  unfold expd
  pointwise [ninf_eq]
  rw [max_eq_right bot_le]

/-- A weight. -/
theorem weights_at (E : FVec Ideal S4x4x64x64x576 .f32) (b h : Fin 4) (n i : Fin 64) (w : Fin 576) :
    weights E (ix5 b h n i w) = Ideal.div (E (ix5 b h n i w)) (∑ x : Fin 576, E (ix5 b h n i x)) := by
  unfold weights
  pointwise

end Cert.ReferenceIdeal.AttRef

end
-- ==== Proof.AttRefOut.lean ====
/- The reference's attention, read at an index. -/
module

public import proofs.«01_k».proof.Proof.AttRefWin
public import proofs.«01_k».proof.Proof.AttRefBias
public import proofs.«01_k».proof.Proof.AttRefSoft

@[expose] public section

set_option maxRecDepth 16384

noncomputable section

namespace Cert.ReferenceIdeal.AttRef

open Cert.ReferenceIdeal Cert.ReferenceIdeal.Gen Cert.ReferenceIdeal.Value
open Idealize.ShloMosaic Idealize.ShloMosaic.TcCoe Idealize.SL.Sem

variable (Q K W X : FVec Ideal S4x4096x256 .f32) (R : FVec Ideal S4x257 .f32)

/-- The reference's masked and biased score. -/
theorem scores_at (b : Fin 4) (h : Fin 4) (n i : Fin 64) (w : Fin 576) :
    scores Q K R (ix5 b h n i w) = AttSpec.score Q K R b h n i w := by
  unfold scores
  pointwise [window_at, bias_at, valid_at, ninf_eq, eighth_eq]
  unfold AttSpec.score
  by_cases hv : 512 ≤ n.val * 64 + w.val
  · rw [if_pos hv, if_pos hv]
    rfl
  · rw [if_neg hv, if_neg hv]
    rfl

/-- The reference's result at chunk `n`, query `i`, head `h` and lane `d`. -/
theorem refOut_at (b : Fin 4) (n i : Fin 64) (h : Fin 4) (d : Fin 64) :
    refOut Q K W R (ix3 b (AttSpec.token n i) (AttSpec.lane h d)) = AttSpec.att Q K W R b n i h d := by
  unfold refOut
  pointwise [window_at, weights_at, expd_at, rowMax_at, scores_at]
  have hl : ∀ p, (⟨(AttSpec.lane h d).val / 64, p⟩ : Fin 4) = h := fun p => Fin.ext (by show (h.val * 64 + d.val) / 64 = h.val; omega)
  have hd : ∀ p, (⟨(AttSpec.lane h d).val % 64, p⟩ : Fin 64) = d := fun p => Fin.ext (by show (h.val * 64 + d.val) % 64 = d.val; omega)
  have hn : ∀ p, (⟨(AttSpec.token n i).val / 64, p⟩ : Fin 64) = n := fun p => Fin.ext (by show (n.val * 64 + i.val) / 64 = n.val; omega)
  have hi : ∀ p, (⟨(AttSpec.token n i).val % 64, p⟩ : Fin 64) = i := fun p => Fin.ext (by show (n.val * 64 + i.val) % 64 = i.val; omega)
  simp only [hl, hd, hn, hi]
  rfl

end Cert.ReferenceIdeal.AttRef

end
-- ==== Proof.AttClaim.lean ====
/- The value claim of the attention: at the extended reals, on finite queries, keys and table, the kernel's result array is the reference's. -/
module

public import proofs.«01_k».proof.Defs
public import proofs.«01_k».proof.Proof.AttFinal
public import proofs.«01_k».proof.Proof.AttRefOut
public import proofs.«01_k».proof.Proof.Gen.Pre_finite
public import Idealize.ShloMosaic.Lib.Claim
public import Idealize.ShloMosaic.Lib.ReduceAll

@[expose] public section

set_option maxRecDepth 16384

noncomputable section

namespace Cert.Proof.AttClaim

open Idealize.ShloMosaic Idealize.SL.Sem

/-- What is below infinity in absolute value is real. -/
theorem real_of (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The precondition, entry by entry. -/
theorem finite_of (q k v : FVec Ideal Cert.Pre_finite.S4x4096x256 .f32) (R : FVec Ideal Cert.Pre_finite.S4x257 .f32)
    (h : Cert.Pre_finite.fn (F := Ideal) q k v R = fun _ => 1#1) :
    (∀ x, ∃ r : ℝ, q x = (r : EReal)) ∧ (∀ x, ∃ r : ℝ, k x = (r : EReal)) ∧ ∀ x, ∃ r : ℝ, R x = (r : EReal) := by
  have h := congrFun h (fun a : Fin 0 => a.elim0)
  dsimp only [Cert.Pre_finite.fn] at h
  obtain ⟨h12, h3⟩ := IntOp.andi_eq_one.mp h
  obtain ⟨h1, h2⟩ := IntOp.andi_eq_one.mp h12
  haveI : Subsingleton Cert.Pre_finite.S_.Idx := ⟨fun a b => funext fun i => i.elim0⟩
  exact ⟨fun x => real_of _ (Host.reduce_andi_all _ _ _ _ _ h1 x), fun x => real_of _ (Host.reduce_andi_all _ _ _ _ _ h2 x),
    fun x => real_of _ (Host.reduce_andi_all _ _ _ _ _ h3 x)⟩

set_option maxHeartbeats 4000000 in
/-- Both runs end with the attention of arguments that agree. -/
theorem algebraic : Cert.algebraic_KernelIdeal_ReferenceIdeal_pre_finite := by
  pair_intro
  · run_from Cert.KernelIdeal.Value.run_blocks m g
  · refine (θ_run Cert.ReferenceIdeal.defs _ _).mono (fun _ h c => ⟨(h c).1.trans ?_, (h c).2⟩)
      (Cert.ReferenceIdeal.Value.run m' g')
    obtain ⟨hQ, hK, hR⟩ := finite_of _ _ _ _ (hpre c)
    rw [Cert.KernelIdeal.AttValue.final m c hQ hK hR]
    obtain ⟨h0, h1, h2, h3⟩ := hagree c
    refine (Cert.ReferenceIdeal.AttRef.res_eq m' c).trans ?_
    rw [h0, h1, h2, h3]
    funext i
    obtain ⟨b, t, e, rfl⟩ : ∃ b t e, i = ix3 b t e := ⟨i 0, i 1, i 2, by funext k; fin_cases k <;> rfl⟩
    have ht : t = AttSpec.token ⟨t.val / 64, by omega⟩ ⟨t.val % 64, by omega⟩ := Fin.ext (show t.val = t.val / 64 * 64 + t.val % 64 by omega)
    have he : e = AttSpec.lane ⟨e.val / 64, by omega⟩ ⟨e.val % 64, by omega⟩ := Fin.ext (show e.val = e.val / 64 * 64 + e.val % 64 by omega)
    refine (congrArg₂ (fun t e => Cert.ReferenceIdeal.AttRef.refOut _ _ _ _ (ix3 b t e)) ht he).trans ?_
    refine (Cert.ReferenceIdeal.AttRef.refOut_at _ _ _ _ b _ _ _ _).trans ?_
    rfl

end Cert.Proof.AttClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Tail
public import proofs.«01_k».proof.Proof.Gen.TailIdeal
public import proofs.«01_k».proof.Proof.Gen.TailReferenceIdeal
public import proofs.«01_k».proof.Proof.Frames
public import proofs.«01_k».proof.Proof.TailClaim
public import proofs.«01_k».proof.Proof.AttClaim
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.SL.Sem

/-- Everything the certificate claims, each part by its own theorem. -/
theorem claim : Cert.Claim :=
  ⟨Cert.Kernel.Gen.facts, Cert.KernelIdeal.Gen.facts, Cert.ReferenceIdeal.Gen.facts, Cert.Reference.Gen.facts,
    Cert.Tail.Gen.facts, Cert.TailIdeal.Gen.facts, Cert.TailReferenceIdeal.Gen.facts, Cert.Pre_finite.Gen.facts,
    Frames.kernel, Frames.kernelIdeal, Frames.kernelIdeal_finite, Frames.referenceIdeal, Frames.referenceIdeal_finite, Frames.reference,
    Frames.tail, Frames.tailIdeal, Frames.tailReferenceIdeal, Frames.preserves, trivial, AttClaim.algebraic, trivial, TailClaim.algebraic⟩

end Cert.Proof

end
